-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_ties [hPre_no_ties : Cert.Pre_no_ties.Facts] (m : (ℓ : Loc Cert.KernelIdeal.nD Cert.KernelIdeal.τ Cert.KernelIdeal.sig) → Buf (Elt Ideal) ℓ) : Prop :=
  ∀ c : Dev Cert.KernelIdeal.nD,
    (Cert.Pre_no_ties.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_ties [hPre_no_ties : Cert.Pre_no_ties.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_ties.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_no_ties [hKernelIdeal : Cert.KernelIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_ties m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_no_ties [hReferenceIdeal : Cert.ReferenceIdeal.Facts] [hPre_no_ties : Cert.Pre_no_ties.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_ties m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "big" .f32 0x7F61B1E6#32 ⊤
  ∧ IdealRules.named_const.Statement Cert.KernelIdeal.κ "neg_log2e" .f32 0xBFB8AA3B#32 ((-((Real.log 2)⁻¹) : ℝ) : EReal)

def algebraic_KernelIdeal_ReferenceIdeal_pre_no_ties [hKernelIdeal : Cert.KernelIdeal.Facts] [hReferenceIdeal : Cert.ReferenceIdeal.Facts] [hPre_no_ties : Cert.Pre_no_ties.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_ties m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_no_ties : Cert.Pre_no_ties.Facts),
    quiescent_Kernel (hKernel := hKernel)
    ∧ quiescent_KernelIdeal (hKernelIdeal := hKernelIdeal)
    ∧ quiescent_KernelIdeal_pre_no_ties (hKernelIdeal := hKernelIdeal) (hPre_no_ties := hPre_no_ties)
    ∧ quiescent_ReferenceIdeal (hReferenceIdeal := hReferenceIdeal)
    ∧ quiescent_ReferenceIdeal_pre_no_ties (hReferenceIdeal := hReferenceIdeal) (hPre_no_ties := hPre_no_ties)
    ∧ preserves_Kernel_KernelIdeal
    ∧ algebraic_KernelIdeal_ReferenceIdeal_pre_no_ties (hKernelIdeal := hKernelIdeal) (hReferenceIdeal := hReferenceIdeal) (hPre_no_ties := hPre_no_ties)
-- ==== Pre_no_ties.lean ====
abbrev S8192x64 : Shape := ⟨2, ![8192, 64]⟩
abbrev S16x64 : Shape := ⟨2, ![16, 64]⟩
abbrev S64x16 : Shape := ⟨2, ![64, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S8192x21 : Shape := ⟨2, ![8192, 21]⟩
abbrev S8192x20 : Shape := ⟨2, ![8192, 20]⟩

class Facts : Prop where
  transposes_S16x64_S64x16_1_0 : S16x64.Transposes [1, 0] S64x16
  reducesTo_S8192x16_S8192_d1 : S8192x16.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x16_S16x8192_1_0 : S8192x16.Transposes [1, 0] S16x8192
  bcast_S_S8192x8192 : S_.BroadcastsInDim S8192x8192 (![] : Fin 0 → Fin S8192x8192.rank)
  sliceFits_S8192x8192_S8192x21 : S8192x8192.Slices (fun _ => 0) S8192x21
  slices_S8192x21_S8192x20_0_0 : S8192x21.Slices ![0, 0] S8192x20
  slices_S8192x21_S8192x20_0_1 : S8192x21.Slices ![0, 1] S8192x20
  dot_S8192x64_S64x16_S8192x16_1_0_0_1_n_n_wf : DotDims.WF S8192x64 S64x16 S8192x16 [1] [0] [0] [1] [] []
  dot_S8192x16_S16x8192_S8192x8192_1_0_0_1_n_n_wf : DotDims.WF S8192x16 S16x8192 S8192x8192 [1] [0] [0] [1] [] []

variable [Facts]

def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf
def dot_S8192x16_S16x8192_S8192x8192_1_0_0_1_n_n : DotDims S8192x16 S16x8192 S8192x8192 where
  lhsContracting := [1]
  rhsContracting := [0]
  lhsNonContracting := [0]
  rhsNonContracting := [1]
  lhsBatch := []
  rhsBatch := []
  wf := dot_S8192x16_S16x8192_S8192x8192_1_0_0_1_n_n_wf
def fn_part1 {F : FTy → Type} [FloatOps F] (main_values : FVec F S8192x21 .f32) (main_v18 : FVec F S8192x20 .f32) : IVec S8192x20 1 :=
  let main_v19 : FVec F S8192x20 .f32 := (extractStridedSlice S8192x20 ![0, 1] · slices_S8192x21_S8192x20_0_1) main_values
  let main_v20 : IVec S8192x20 1 := cmpf .ogt main_v18 main_v19
  main_v20

def fn {F : FTy → Type} [FloatOps F] (main_arg0 : FVec F S8192x64 .f32) (main_arg1 : FVec F S8192x64 .f32) (main_arg2 : FVec F S16x64 .f32) : IVec S8192x20 1 :=
  let main_v0 : FVec F S64x16 .f32 := (transpose S64x16 [1, 0] · transposes_S16x64_S64x16_1_0) main_arg2
  let main_v1 : FVec F S8192x16 .f32 := (fun l r => Host.dotGeneral dot_S8192x64_S64x16_S8192x16_1_0_0_1_n_n none l r) main_arg0 main_v0
  let main_v2 : FVec F S8192x16 .f32 := mulf main_v1 main_v1
  let main_cst : FVec F S_ .f32 := constant S_ .f32 0x00000000#32
  let main_v3 : FVec F S8192 .f32 := (fun x v => Host.reduceAdd x v reducesTo_S8192x16_S8192_d1 h_S_) main_v2 main_cst
  let main_v4 : FVec F S8192x1 .f32 := broadcastInDim S8192x1 ![0] bcast_S8192_S8192x1_0 main_v3
  let main_v5 : FVec F S1x8192 .f32 := broadcastInDim S1x8192 ![1] bcast_S8192_S1x8192_1 main_v3
  let main_v6 : FVec F S8192x8192 .f32 := broadcastInDim S8192x8192 ![0, 1] bcast_S8192x1_S8192x8192_0_1 main_v4
  let main_v7 : FVec F S8192x8192 .f32 := broadcastInDim S8192x8192 ![0, 1] bcast_S1x8192_S8192x8192_0_1 main_v5
  let main_v8 : FVec F S8192x8192 .f32 := addf main_v6 main_v7
  let main_v9 : FVec F S16x8192 .f32 := (transpose S16x8192 [1, 0] · transposes_S8192x16_S16x8192_1_0) main_v1
  let main_v10 : FVec F S8192x8192 .f32 := (fun l r => Host.dotGeneral dot_S8192x16_S16x8192_S8192x8192_1_0_0_1_n_n none l r) main_v1 main_v9
  let main_cst_0 : FVec F S_ .f32 := constant S_ .f32 0x40000000#32
  let main_v11 : FVec F S8192x8192 .f32 := broadcastInDim S8192x8192 ![] bcast_S_S8192x8192 main_cst_0
  let main_v12 : FVec F S8192x8192 .f32 := mulf main_v11 main_v10
  let main_v13 : FVec F S8192x8192 .f32 := subf main_v8 main_v12
  let main_cst_1 : FVec F S_ .f32 := constant S_ .f32 0x00000000#32
  let main_v14 : FVec F S8192x8192 .f32 := broadcastInDim S8192x8192 ![] bcast_S_S8192x8192 main_cst_1
  let main_v15 : FVec F S8192x8192 .f32 := maximumf main_v13 main_v14
  let main_v16 : FVec F S8192x8192 .f32 := Host.negf main_v15
  let main_v17 : FVec F S8192x8192 .f32 := Host.exp main_v16
  let main_values : FVec F S8192x21 .f32 := (fun x => (Host.topK S8192x21 1 (FloatOps.cmpfTotal .gt) x sliceFits_S8192x8192_S8192x21).1) main_v17
  let main_indices : IVec S8192x21 32 := (fun x => (Host.topK S8192x21 1 (FloatOps.cmpfTotal .gt) x sliceFits_S8192x8192_S8192x21).2) main_v17
  let main_v18 : FVec F S8192x20 .f32 := (extractStridedSlice S8192x20 ![0, 0] · slices_S8192x21_S8192x20_0_0) main_values
  fn_part1 (F := F) main_values main_v18
-- ==== Kernel.lean ====
abbrev S8192x64 : Shape := ⟨2, ![8192, 64]⟩
abbrev S16x64 : Shape := ⟨2, ![16, 64]⟩
abbrev S256x64 : Shape := ⟨2, ![256, 64]⟩
abbrev S8192x65 : Shape := ⟨2, ![8192, 65]⟩
abbrev S17x8192 : Shape := ⟨2, ![17, 8192]⟩
abbrev S8192x16 : Shape := ⟨2, ![8192, 16]⟩
abbrev S64x16 : Shape := ⟨2, ![64, 16]⟩
abbrev S16x8192 : Shape := ⟨2, ![16, 8192]⟩
abbrev S8192 : Shape := ⟨1, ![8192]⟩
abbrev S1x8192 : Shape := ⟨2, ![1, 8192]⟩
abbrev S8192x1 : Shape := ⟨2, ![8192, 1]⟩
abbrev S256x16 : Shape := ⟨2, ![256, 16]⟩
abbrev S256x8192 : Shape := ⟨2, ![256, 8192]⟩
abbrev S1x256 : Shape := ⟨2, ![1, 256]⟩
abbrev S256 : Shape := ⟨1, ![256]⟩
abbrev S256x1 : Shape := ⟨2, ![256, 1]⟩
abbrev S256x64x128 : Shape := ⟨3, ![256, 64, 128]⟩
abbrev S256x128 : Shape := ⟨2, ![256, 128]⟩
abbrev S256x1x128 : Shape := ⟨3, ![256, 1, 128]⟩
abbrev S256x640 : Shape := ⟨2, ![256, 640]⟩
abbrev S1x256x128 : Shape := ⟨3, ![1, 256, 128]⟩
abbrev S1 : Shape := ⟨1, ![1]⟩
abbrev S1x1x1 : Shape := ⟨3, ![1, 1, 1]⟩
abbrev S256x65 : Shape := ⟨2, ![256, 65]⟩

abbrev nBuf : Space → Nat
  | .hbm => 4
  | .vmem => 7
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S16x64, .f32⟩
  | .hbm, ⟨3, _⟩ => ⟨S8192x64, .f32⟩
  | .local _ .vmem, ⟨0, _⟩ => ⟨S8192x64, .f32⟩
  | .local _ .vmem, ⟨1, _⟩ => ⟨S16x64, .f32⟩
  | .local _ .vmem, ⟨2, _⟩ => ⟨S256x64, .f32⟩
  | .local _ .vmem, ⟨3, _⟩ => ⟨S256x64, .f32⟩
  | .local _ .vmem, ⟨4, _⟩ => ⟨S8192x65, .f32⟩
  | .local _ .vmem, ⟨5, _⟩ => ⟨S17x8192, .f32⟩
  | .local _ .vmem, ⟨6, _⟩ => ⟨S8192x16, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let arg0 : BitVec 32 := BitVec.ofNat 32 (i 0).val
  let c256_i32 : BitVec 32 := 256#32
  let v3 : BitVec 32 := Scalar.muli arg0 c256_i32
  let v4 : Index := Scalar.indexCast v3
  let c0 : Index := 0#32
  ![v4.toNat, 0]
def k0_off2 (i : grid0.Coords) : Fin 2 → Nat :=
  let c16_5 : Index := 16#32
  let arg0 : BitVec 32 := BitVec.ofNat 32 (i 0).val
  let c256_i32_4 : BitVec 32 := 256#32
  let v9 : BitVec 32 := Scalar.muli arg0 c256_i32_4
  let v10 : Index := Scalar.indexCast v9
  ![16, v10.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "big" => some ⊤
  | "neg_log2e" => some ((-((Real.log 2)⁻¹) : ℝ) : EReal)
  | _ => none
-- ==== ReferenceIdeal.lean ====
abbrev S8192x64 : Shape := ⟨2, ![8192, 64]⟩
abbrev S16x64 : Shape := ⟨2, ![16, 64]⟩
abbrev S64x16 : Shape := ⟨2, ![64, 16]⟩
abbrev S8192x16 : Shape := ⟨2, ![8192, 16]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S16x8192 : Shape := ⟨2, ![16, 8192]⟩
abbrev S8192x20 : Shape := ⟨2, ![8192, 20]⟩
abbrev S8192x20x1 : Shape := ⟨3, ![8192, 20, 1]⟩
abbrev S8192x20x2 : Shape := ⟨3, ![8192, 20, 2]⟩

abbrev nBuf : Space → Nat
  | .hbm => 55
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S8192x64, .f32⟩
  | .hbm, ⟨2, _⟩ => ⟨S16x64, .f32⟩
  | .hbm, ⟨3, _⟩ => ⟨S64x16, .f32⟩
  | .hbm, ⟨4, _⟩ => ⟨S8192x16, .f32⟩
  | .hbm, ⟨5, _⟩ => ⟨S8192x16, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S16x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x20, .f32⟩
  | .hbm, ⟨25, _⟩ => ⟨S8192x20, .i32⟩
  | .hbm, ⟨26, _⟩ => ⟨S8192, .i32⟩
  | .hbm, ⟨27, _⟩ => ⟨S8192x1, .i32⟩
  | .hbm, ⟨28, _⟩ => ⟨S_, .f32⟩
  | .hbm, ⟨29, _⟩ => ⟨S8192x8192, .f32⟩
  | .hbm, ⟨30, _⟩ => ⟨S_, .i32⟩
  | .hbm, ⟨31, _⟩ => ⟨S8192x1, .i32⟩
  | .hbm, ⟨32, _⟩ => ⟨S8192x1, .i1⟩
  | .hbm, ⟨33, _⟩ => ⟨S_, .i32⟩
  | .hbm, ⟨34, _⟩ => ⟨S8192x1, .i32⟩
  | .hbm, ⟨35, _⟩ => ⟨S8192x1, .i32⟩
  | .hbm, ⟨36, _⟩ => ⟨S8192x1, .i32⟩
  | .hbm, ⟨37, _⟩ => ⟨S_, .i32⟩
  | .hbm, ⟨38, _⟩ => ⟨S8192x20, .i32⟩
  | .hbm, ⟨39, _⟩ => ⟨S8192x20, .i1⟩
  | .hbm, ⟨40, _⟩ => ⟨S_, .i32⟩
  | .hbm, ⟨41, _⟩ => ⟨S8192x20, .i32⟩
  | .hbm, ⟨42, _⟩ => ⟨S8192x20, .i32⟩
  | .hbm, ⟨43, _⟩ => ⟨S8192x20, .i32⟩
  | .hbm, ⟨44, _⟩ => ⟨S8192x20, .i32⟩
  | .hbm, ⟨45, _⟩ => ⟨S8192x20x1, .i32⟩
  | .hbm, ⟨46, _⟩ => ⟨S8192x20x1, .i32⟩
  | .hbm, ⟨47, _⟩ => ⟨S8192x20x2, .i32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x8192, .f32⟩
  | .hbm, ⟨53, _⟩ => ⟨S8192x8192, .f32⟩
  | .hbm, ⟨54, _⟩ => ⟨S8192x64, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_values : Ref sig .tc := ⟨.hbm, 24, rfl⟩
abbrev main_indices : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_c : Ref sig .tc := ⟨.hbm, 30, rfl⟩
abbrev main_v21 : Ref sig .tc := ⟨.hbm, 31, rfl⟩
abbrev main_v22 : Ref sig .tc := ⟨.hbm, 32, rfl⟩
abbrev main_c_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_c_4 : Ref sig .tc := ⟨.hbm, 37, rfl⟩
abbrev main_v26 : Ref sig .tc := ⟨.hbm, 38, rfl⟩
abbrev main_v27 : Ref sig .tc := ⟨.hbm, 39, rfl⟩
abbrev main_c_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Skeleton
public import Idealize.ShloMosaic.Lib.Pipeline.TableIdle
public import Idealize.ShloMosaic.Lib.VecWindow

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

abbrev 𝒱₀ : Variants := Variants.none

/-- Rows `256 i`, … of the features, as point `i` loads them. -/
abbrev fRows (i : grid0.Coords) (f : Vec F S8192x16 .f32) : Vec F S256x16 .f32 :=
  VecWindow.window f (k0_off1 i) S256x16.size (k0_off1_inb i)
/-- The transposed features, the first 16 rows of the second scratch buffer. -/
abbrev ftRows (fa : Vec F S17x8192 .f32) : Vec F S16x8192 .f32 :=
  VecWindow.window fa ![0, 0] S16x8192.size inb_S17x8192_S16x8192_0_0
/-- The squared lengths, its last row. -/
abbrev sqRow (fa : Vec F S17x8192 .f32) : Vec F S1x8192 .f32 :=
  VecWindow.window fa ![16, 0] S1x8192.size inb_S17x8192_S1x8192_16_0
/-- Point `i`'s squared lengths, the columns `256 i`, … of that row. -/
abbrev sqCols (i : grid0.Coords) (fa : Vec F S17x8192 .f32) : Vec F S1x256 .f32 :=
  VecWindow.window fa (k0_off2 i) S1x256.size (k0_off2_inb i)

/-- The squared distances of a point's rows to every row, less the row's own squared length. -/
abbrev hOf (a : Vec F S256x16 .f32) (b : Vec F S16x8192 .f32) (r : Vec F S1x8192 .f32) : FVec F S256x8192 .f32 := k0_pay11 a b r

/-- The pool a point selects from after ten of its rounds: the five least values of each lane. -/
def poolOf (a : Vec F S256x16 .f32) (b : Vec F S16x8192 .f32) (r : Vec F S1x8192 .f32) : FVec F S256x640 .f32 :=
  k0_pay21 (k0_pay19 (k0_pay12 a b r) (k0_pay13 a b r) (k0_pay14 a b r) (k0_pay15 a b r) (k0_pay16 a b r) (k0_pay17 a b r))
    (k0_pay20 (k0_pay12 a b r) (k0_pay13 a b r) (k0_pay14 a b r) (k0_pay15 a b r) (k0_pay16 a b r) (k0_pay17 a b r))

/-- Whether the fifth least value of every lane lies above the pool's threshold. -/
def okOf (a : Vec F S256x16 .f32) (b : Vec F S16x8192 .f32) (r : Vec F S1x8192 .f32) : BitVec 1 :=
  Scalar.cmpi .ne (Scalar.extui (Scalar.cmpf .ogt (k0_pay23 (k0_pay18 (k0_pay12 a b r) (k0_pay17 a b r)) (poolOf a b r))
    (Scalar.ofBits .f32 0x00000000#32 : F .f32)) : BitVec 32) 0#32

/-- The threshold selected from the whole rows. -/
def fullOf (a : Vec F S256x16 .f32) (b : Vec F S16x8192 .f32) (r : Vec F S1x8192 .f32) : FVec F S256x1 .f32 :=
  k0_pay1 (k0_pay5 (k0_pay3 (hOf a b r)) (k0_pay4 (hOf a b r)))

/-- The threshold a point weighs by: the pool's, or the whole rows' where the check on the lanes fails. -/
def thrOf (a : Vec F S256x16 .f32) (b : Vec F S16x8192 .f32) (r : Vec F S1x8192 .f32) : FVec F S256x1 .f32 :=
  if okOf a b r = 1#1 then k0_pay22 (poolOf a b r) else fullOf a b r

/-- The block a point stores, of what the three scratch buffers hold. -/
def outBlk (i : grid0.Coords) (xa : Vec F S8192x65 .f32) (fa : Vec F S17x8192 .f32) (f : Vec F S8192x16 .f32) : Vec F S256x64 .f32 :=
  k0_pay2 (k0_pay10 (sqCols i fa)) (hOf (fRows i f) (ftRows fa) (sqRow fa)) (thrOf (fRows i f) (ftRows fa) (sqRow fa)) xa

/-- Reading back a view written whole. -/
theorem read_writes_full {sp : Space} {s : Shape} {e : EltTy} (v : View sig .tc sp s e) (g : v.ty.Contents (Elt F)) {off : Fin s.rank → ℕ}
    (inb : ∀ a, off a + s.size a ≤ s.size a) (w : s.Idx → Elt F e) (L : List (View.Piece (Elt F) s e)) :
    v.read (Elt F) (v.writes (Elt F) g ((⟨Rect.unit off s.size inb, w⟩ : View.Piece (Elt F) s e) :: L)) = w := by
  funext y
  refine View.read_writes_cons_unit_of_mem v g inb w L y y (off' := fun _ => 0) ?_ (fun a => by simp)
  funext a
  have := inb a
  omega

/-- A view written whole is owned at what was written. -/
theorem owns_writes_full (c : Dev nD) {sp : Space} {s : Shape} {e : EltTy} (M : Memref sig .tc sp s e) (g : M.view.ty.Contents (Elt F))
    {off : Fin s.rank → ℕ} (inb : ∀ a, off a + s.size a ≤ s.size a) (w : s.Idx → Elt F e) (L : List (View.Piece (Elt F) s e)) :
    (M.view.loc (c : Thread nD τ) ↦[M.view.set]{fullShare} M.view.writes (Elt F) g ((⟨Rect.unit off s.size inb, w⟩ : View.Piece (Elt F) s e) :: L))
      ⊢ (owns (c : Thread nD τ) M fullShare w : sProp 𝕄) := by
  unfold owns
  iintro H
  iexists _
  isplitr
  · ipureintro; exact read_writes_full M.view g inb w L
  iexact H

/-- The same at the named contents. -/
theorem rep_writes_full (c : Dev nD) {sp : Space} {s : Shape} {e : EltTy} (M : Memref sig .tc sp s e) (g : M.view.ty.Contents (Elt F))
    {off : Fin s.rank → ℕ} (inb : ∀ a, off a + s.size a ≤ s.size a) (w : s.Idx → Elt F e) (L : List (View.Piece (Elt F) s e)) :
    (M.view.loc (c : Thread nD τ) ↦[M.view.set]{fullShare} M.view.writes (Elt F) g ((⟨Rect.unit off s.size inb, w⟩ : View.Piece (Elt F) s e) :: L))
      ⊢ (M.view.loc (c : Thread nD τ) ↦[M.view.set]{fullShare} M.view.rep w : sProp 𝕄) :=
  (owns_writes_full c M g inb w L).trans (rep_of_owns (c : Thread nD τ) M fullShare w)

section run
variable (c : Dev nD) (i : grid0.Coords)
    (arg1 : Memref sig .tc .vmem S8192x64 .f32) (harg1 : arg1.IsWhole) (arg2 : Memref sig .tc .vmem S16x64 .f32) (harg2 : arg2.IsWhole)
    (arg3 : Memref sig .tc .vmem S256x64 .f32) (harg3 : arg3.IsWhole) (arg4 : Memref sig .tc .vmem S8192x65 .f32) (harg4 : arg4.IsWhole)
    (arg5 : Memref sig .tc .vmem S17x8192 .f32) (harg5 : arg5.IsWhole) (arg6 : Memref sig .tc .vmem S8192x16 .f32) (harg6 : arg6.IsWhole)
    (x : Vec F S8192x64 .f32) (W : Vec F S16x64 .f32) (d3 : Vec F S256x64 .f32)
    (d4 : Vec F S8192x65 .f32) (d5 : Vec F S17x8192 .f32) (d6 : Vec F S8192x16 .f32)

/-- The condition of the body's first branch, by the point. -/
theorem cond_first : (Scalar.cmpi .ne (Scalar.extui (Scalar.cmpi .eq (BitVec.ofNat 32 (i 0).val) 0#32) : BitVec 32) 0#32 = 1#1) ↔ (i 0).val = 0 := by
  have h : (i 0).val < 32 := (i 0).isLt
  generalize (i 0).val = n at h
  revert h; revert n; decide

/-- A point after the first: the scratch stays as it is and the output block is `outBlk` of it. -/
theorem run_rest (K : PUnit → sProp 𝕄) (hi : ¬ (i 0).val = 0) :
    iprop(owns (c : Thread nD τ) arg1 fullShare x ∗ owns (c : Thread nD τ) arg2 fullShare W ∗ owns (c : Thread nD τ) arg3 fullShare d3
      ∗ owns (c : Thread nD τ) arg4 fullShare d4 ∗ owns (c : Thread nD τ) arg5 fullShare d5 ∗ owns (c : Thread nD τ) arg6 fullShare d6
      ∗ (iprop(owns (c : Thread nD τ) arg1 fullShare x ∗ owns (c : Thread nD τ) arg2 fullShare W
            ∗ owns (c : Thread nD τ) arg3 fullShare (outBlk i d4 d5 d6)
            ∗ owns (c : Thread nD τ) arg4 fullShare d4 ∗ owns (c : Thread nD τ) arg5 fullShare d5 ∗ owns (c : Thread nD τ) arg6 fullShare d6) -∗ K ⟨⟩))
      ⊢ wp frame (wpE (defs₀ (F := F)) 𝒱₀ c none) Set.univ
          (cc0__body i arg1 harg1 arg2 harg2 arg3 harg3 arg4 harg4 arg5 harg5 arg6 harg6) K := by
  have hc := mt (cond_first i).1 hi
  have w6 := View.readAt_rep_unit (Val := Elt F) arg6.view d6 (k0_off1_inb i) rfl (k0_off1_inb i)
  have w5a := View.readAt_rep_unit (Val := Elt F) arg5.view d5 inb_S17x8192_S16x8192_0_0 rfl inb_S17x8192_S16x8192_0_0
  have w5b := View.readAt_rep_unit (Val := Elt F) arg5.view d5 inb_S17x8192_S1x8192_16_0 rfl inb_S17x8192_S1x8192_16_0
  have w5c := View.readAt_rep_unit (Val := Elt F) arg5.view d5 (k0_off2_inb i) rfl (k0_off2_inb i)
  have w4 := View.readAt_rep_full (Val := Elt F) arg4.view d4 inb_S8192x65_S8192x65_0_0
  simp only [owns_eq_rep]
  iintro ⟨H1, H2, H3, H4, H5, H6, Hk⟩
  sl_unfold [cc0__body]
  sl_exec
  have fin : ∀ (v : FVec F S256x1 .f32), v = thrOf (fRows i d6) (ftRows d5) (sqRow d5) →
      k0_pay2 (run_rest.sl.r i d5) (run_rest.sl.r_1 i d5 d6) v d4 = outBlk i d4 d5 d6 := fun v hv => by rw [hv]; rfl
  by_cases hok : okOf (fRows i d6) (ftRows d5) (sqRow d5) = 1#1
  · have hok' : run_rest.sl.v172 i d5 d6 = 1#1 := hok
    sl_exec
    rw [fin _ (by unfold thrOf; rw [if_pos hok]; rfl)]
    sl_step
    iapply Hk
    isplitl [H1]; · iexact H1
    isplitl [H2]; · iexact H2
    isplitl [H3]; · iapply rep_writes_full $$ H3
    isplitl [H4]; · iexact H4
    isplitl [H5]; · iexact H5
    iexact H6
  · have hok' : ¬ run_rest.sl.v172 i d5 d6 = 1#1 := hok
    sl_exec
    rw [fin _ (by unfold thrOf; rw [if_neg hok]; rfl)]
    sl_step
    iapply Hk
    isplitl [H1]; · iexact H1
    isplitl [H2]; · iexact H2
    isplitl [H3]; · iapply rep_writes_full $$ H3
    isplitl [H4]; · iexact H4
    isplitl [H5]; · iexact H5
    iexact H6

/-- The first point: the three scratch buffers are written whole from the inputs, and the output block is `outBlk` of
    what they then hold. -/
theorem run_first (K : PUnit → sProp 𝕄) (hi : (i 0).val = 0) :
    iprop(owns (c : Thread nD τ) arg1 fullShare x ∗ owns (c : Thread nD τ) arg2 fullShare W ∗ owns (c : Thread nD τ) arg3 fullShare d3
      ∗ owns (c : Thread nD τ) arg4 fullShare d4 ∗ owns (c : Thread nD τ) arg5 fullShare d5 ∗ owns (c : Thread nD τ) arg6 fullShare d6
      ∗ (iprop(owns (c : Thread nD τ) arg1 fullShare x ∗ owns (c : Thread nD τ) arg2 fullShare W
            ∗ owns (c : Thread nD τ) arg3 fullShare (outBlk i (k0_pay9 x) (k0_pay8 x W) (k0_pay7 x W))
            ∗ owns (c : Thread nD τ) arg4 fullShare (k0_pay9 x) ∗ owns (c : Thread nD τ) arg5 fullShare (k0_pay8 x W)
            ∗ owns (c : Thread nD τ) arg6 fullShare (k0_pay7 x W)) -∗ K ⟨⟩))
      ⊢ wp frame (wpE (defs₀ (F := F)) 𝒱₀ c none) Set.univ
          (cc0__body i arg1 harg1 arg2 harg2 arg3 harg3 arg4 harg4 arg5 harg5 arg6 harg6) K := by
  have hc := (cond_first i).2 hi
  have w1 := View.readAt_rep_full (Val := Elt F) arg1.view x inb_S8192x64_S8192x64_0_0
  have w2 := View.readAt_rep_full (Val := Elt F) arg2.view W inb_S16x64_S16x64_0_0
  simp only [owns_eq_rep]
  iintro ⟨H1, H2, H3, H4, H5, H6, Hk⟩
  sl_unfold [cc0__body]
  sl_exec
  have e6 : View.readAt (Elt F) arg6.view (Rect.unit (s := S8192x16) (k0_off1 i) S256x16.size (k0_off1_inb i)).toLoadRect
      (arg6.view.writes (Elt F) arg6.view.junk (run_first.sl.H6_1 x W)) = fRows i (k0_pay7 x W) := by
    rw [View.readAt_unit arg6.view _ (k0_off1_inb i) rfl (k0_off1_inb i)]
    exact congrArg (fun g => VecWindow.window g _ _ _) (read_writes_full arg6.view _ _ _ [])
  have e5 : arg5.view.read (Elt F) (arg5.view.writes (Elt F) arg5.view.junk (run_first.sl.H5_1 x W)) = k0_pay8 x W :=
    read_writes_full arg5.view _ _ _ []
  have e5a : run_first.sl.v6 arg5 x W = ftRows (k0_pay8 x W) :=
    (View.readAt_unit arg5.view _ inb_S17x8192_S16x8192_0_0 rfl inb_S17x8192_S16x8192_0_0).trans (congrArg (fun g => VecWindow.window g _ _ _) e5)
  have e5b : run_first.sl.v8 arg5 x W = sqRow (k0_pay8 x W) :=
    (View.readAt_unit arg5.view _ inb_S17x8192_S1x8192_16_0 rfl inb_S17x8192_S1x8192_16_0).trans (congrArg (fun g => VecWindow.window g _ _ _) e5)
  have e5c : View.readAt (Elt F) arg5.view (Rect.unit (s := S17x8192) (k0_off2 i) S1x256.size (k0_off2_inb i)).toLoadRect
      (arg5.view.writes (Elt F) arg5.view.junk (run_first.sl.H5_1 x W)) = sqCols i (k0_pay8 x W) :=
    (View.readAt_unit arg5.view _ (k0_off2_inb i) rfl (k0_off2_inb i)).trans (congrArg (fun g => VecWindow.window g _ _ _) e5)
  have eok : run_first.sl.v172 i arg5 arg6 x W = okOf (fRows i (k0_pay7 x W)) (ftRows (k0_pay8 x W)) (sqRow (k0_pay8 x W)) := by
    rw [← e6, ← e5a, ← e5b]; rfl
  have et : run_first.sl.r_12 i arg5 arg6 x W
      = k0_pay22 (poolOf (fRows i (k0_pay7 x W)) (ftRows (k0_pay8 x W)) (sqRow (k0_pay8 x W))) := by
    rw [← e6, ← e5a, ← e5b]; rfl
  have eh : run_first.sl.r_1 i arg5 arg6 x W = hOf (fRows i (k0_pay7 x W)) (ftRows (k0_pay8 x W)) (sqRow (k0_pay8 x W)) := by
    rw [← e6, ← e5a, ← e5b]; rfl
  have es : run_first.sl.r i arg5 x W = k0_pay10 (sqCols i (k0_pay8 x W)) := by
    rw [← e5c]; rfl
  -- read by the stepper below
  have w4 : View.readAt (Elt F) arg4.view (Rect.unit (s := S8192x65) ![0, 0] S8192x65.size inb_S8192x65_S8192x65_0_0).toLoadRect
      (arg4.view.writes (Elt F) arg4.view.junk [⟨Rect.unit (s := S8192x65) ![0, 0] S8192x65.size inb_S8192x65_S8192x65_0_0, k0_pay9 x⟩]) = k0_pay9 x := by
    rw [View.readAt_unit arg4.view _ inb_S8192x65_S8192x65_0_0 rfl inb_S8192x65_S8192x65_0_0, read_writes_full]
    exact (View.readAt_rep_unit (Val := Elt F) arg4.view (k0_pay9 x) inb_S8192x65_S8192x65_0_0 rfl inb_S8192x65_S8192x65_0_0).symm.trans
      (View.readAt_rep_full arg4.view _ inb_S8192x65_S8192x65_0_0)
  have r5 : run_first.sl.H5_1 x W = [(⟨Rect.unit (s := S17x8192) ![0, 0] S17x8192.size inb_S17x8192_S17x8192_0_0, k0_pay8 x W⟩ : View.Piece (Elt F) S17x8192 .f32)] := rfl
  have r6 : run_first.sl.H6_1 x W = [(⟨Rect.unit (s := S8192x16) ![0, 0] S8192x16.size inb_S8192x16_S8192x16_0_0, k0_pay7 x W⟩ : View.Piece (Elt F) S8192x16 .f32)] := rfl
  rw [eok]
  have fin : ∀ (v : FVec F S256x1 .f32) (u : Vec F S8192x65 .f32), u = k0_pay9 x →
      v = thrOf (fRows i (k0_pay7 x W)) (ftRows (k0_pay8 x W)) (sqRow (k0_pay8 x W)) →
      k0_pay2 (k0_pay10 (sqCols i (k0_pay8 x W))) (hOf (fRows i (k0_pay7 x W)) (ftRows (k0_pay8 x W)) (sqRow (k0_pay8 x W))) v u
        = outBlk i (k0_pay9 x) (k0_pay8 x W) (k0_pay7 x W) := fun v u hu hv => by rw [hu, hv]; rfl
  by_cases hok : okOf (fRows i (k0_pay7 x W)) (ftRows (k0_pay8 x W)) (sqRow (k0_pay8 x W)) = 1#1
  · rw [et, eh, es]
    sl_exec
    rw [fin _ (k0_pay9 x) rfl (show k0_pay22 _ = _ by unfold thrOf; rw [if_pos hok])]
    rw [r5, r6]
    sl_step
    iapply Hk
    isplitl [H1]; · iexact H1
    isplitl [H2]; · iexact H2
    isplitl [H3]; · iapply rep_writes_full $$ H3
    isplitl [H4]; · iapply rep_writes_full $$ H4
    isplitl [H5]; · iapply rep_writes_full $$ H5
    iapply rep_writes_full $$ H6
  · rw [et, eh, es]
    sl_exec
    rw [fin (k0_pay1 (run_first.sl.r_15 i x W)) (k0_pay9 x) rfl (by unfold thrOf; rw [if_neg hok]; rfl)]
    rw [r5, r6]
    sl_step
    iapply Hk
    isplitl [H1]; · iexact H1
    isplitl [H2]; · iexact H2
    isplitl [H3]; · iapply rep_writes_full $$ H3
    isplitl [H4]; · iapply rep_writes_full $$ H4
    isplitl [H5]; · iapply rep_writes_full $$ H5
    iapply rep_writes_full $$ H6

end run
end Cert.KernelIdeal.Body
end
-- ==== Proof.Tracked.lean ====
module

public import proofs.«01_k».proof.Proof.Body

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first point of the grid. -/
def pt0 : Fin cfg0.N := ⟨0, by rw [show cfg0.N = 32 from N_0]; decide⟩

/-- The points and the projection as the first point stages them. -/
def xIn (c : Dev nD) : Vec F S8192x64 .f32 := iblk m c 0 pt0
def wIn (c : Dev nD) : Vec F S16x64 .f32 := iblk m c 1 pt0

/-- The output block point `t` leaves. -/
def oBlk (c : Dev nD) (t : Fin cfg0.N) : Vec F S256x64 .f32 :=
  outBlk (grid0.coords t) (k0_pay9 (xIn m c)) (k0_pay8 (xIn m c) (wIn m c)) (k0_pay7 (xIn m c) (wIn m c))

/-- The three scratch buffers at what the first point writes, and the random state at anything. -/
def held (c : Dev nD) : sProp 𝕄 :=
  iprop((((c : Thread nD τ).loc cc0_scratch0) ↦{fullShare} (k0_pay9 (xIn m c)))
    ∗ (((c : Thread nD τ).loc cc0_scratch1) ↦{fullShare} (k0_pay8 (xIn m c) (wIn m c)))
    ∗ (((c : Thread nD τ).loc cc0_scratch2) ↦{fullShare} (k0_pay7 (xIn m c) (wIn m c)))
    ∗ ∃ r, prngReg c r)

/-- The scratch between points: anything before the first, what it writes afterwards. -/
def inv (c : Dev nD) (n : ℕ) : sProp 𝕄 := if n = 0 then Pipeline.ΦA spec0 c else held m c
theorem inv_zero (c : Dev nD) {n : ℕ} (h : n = 0) : inv m c n = Pipeline.ΦA spec0 c := if_pos h
theorem inv_pos (c : Dev nD) {n : ℕ} (h : ¬ n = 0) : inv m c n = held m c := if_neg h

/-- The proof data: inputs left in place, the output's block at every point, and the scratch — anything before the
    first point, what that point writes after it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => oBlk m c t
  Φ t := inv m c t.val
  q _ := fullShare
  owed _ := 0

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d

/-- Both inputs are staged whole, the same at every point. -/
theorem iblk_0 (c : Dev nD) (t : Fin cfg0.N) : iblk m c 0 t = xIn m c := rfl
theorem iblk_1 (c : Dev nD) (t : Fin cfg0.N) : iblk m c 1 t = wIn m c := rfl

/-- The pipeline's row at a point is the body on that point's buffers. -/
theorem defs₀_row (t : Fin cfg0.N) : defs₀ (F := F) .tc cfg0.body (cfg0.bodyArgs t (cfg0.slots t)) = bodyAt0 t := by
  unfold defs₀; rw [Defs.onTc_tc]

/-- A point's coordinate is its number. -/
theorem coord (t : Fin cfg0.N) : (grid0.coords t 0).val = t.val := by
  have h : ∀ t : Fin grid0.N, (grid0.coords t 0).val = t.val := by decide +kernel
  exact h t

/-- A whole scratch buffer's points-to is its ownership. -/
theorem owns0 (c : Dev nD) (X : Vec F S8192x65 .f32) : (owns (c : Thread nD τ) (Memref.whole cc0_scratch0) fullShare X : sProp 𝕄)
    = (((c : Thread nD τ).loc cc0_scratch0) ↦{fullShare} X) := owns_whole (c : Thread nD τ) cc0_scratch0 fullShare X
theorem owns1 (c : Dev nD) (X : Vec F S17x8192 .f32) : (owns (c : Thread nD τ) (Memref.whole cc0_scratch1) fullShare X : sProp 𝕄)
    = (((c : Thread nD τ).loc cc0_scratch1) ↦{fullShare} X) := owns_whole (c : Thread nD τ) cc0_scratch1 fullShare X
theorem owns2 (c : Dev nD) (X : Vec F S8192x16 .f32) : (owns (c : Thread nD τ) (Memref.whole cc0_scratch2) fullShare X : sProp 𝕄)
    = (((c : Thread nD τ).loc cc0_scratch2) ↦{fullShare} X) := owns_whole (c : Thread nD τ) cc0_scratch2 fullShare X

/-- The body at a point, from anything in the output's buffer: the first point writes the scratch, a later one keeps
    it, each leaves its block of the output. -/
theorem sound_body (c : Dev nD) (t : Fin cfg0.N) (d2 : Vec F S256x64 .f32) (K : PUnit → sProp 𝕄) :
    iprop((dats m 0 c).Φ t.castSucc ∗ owns (c : Thread nD τ) (st0_0 t) fullShare (xIn m c) ∗ owns (c : Thread nD τ) (st0_1 t) fullShare (wIn m c)
      ∗ owns (c : Thread nD τ) (st0_2 t) fullShare d2
      ∗ (iprop((dats m 0 c).Φ t.succ ∗ owns (c : Thread nD τ) (st0_0 t) fullShare (xIn m c) ∗ owns (c : Thread nD τ) (st0_1 t) fullShare (wIn m c)
          ∗ owns (c : Thread nD τ) (st0_2 t) fullShare (oBlk m c t)) -∗ K ⟨⟩))
      ⊢ wp frame (wpE (defs₀ (F := F)) 𝒱₀ c none) Set.univ (bodyAt0 t) K := by
  have hs : (dats m 0 c).Φ t.succ = held m c := inv_pos m c (Nat.succ_ne_zero t.val)
  rw [hs]
  by_cases h : t.val = 0
  · have hp : (dats m 0 c).Φ t.castSucc = Pipeline.ΦA spec0 c := inv_zero m c h
    rw [hp]; unfold Pipeline.ΦA held; rw [scopedRest0_eq]
    iintro ⟨⟨⟨⟨%f0, S0⟩, ⟨%f1, S1⟩, ⟨%f2, S2⟩⟩, Hr⟩, H1, H2, H3, Hk⟩
    iapply (run_first c (grid0.coords t) _ _ _ _ _ _ _ _ _ _ _ _ (xIn m c) (wIn m c) d2 f0 f1 f2 K ((coord t).trans h))
    rw [owns0, owns1, owns2, owns0, owns1, owns2]
    isplitl [H1]; · iexact H1
    isplitl [H2]; · iexact H2
    isplitl [H3]; · iexact H3
    isplitl [S0]; · iexact S0
    isplitl [S1]; · iexact S1
    isplitl [S2]; · iexact S2
    iintro ⟨H1, H2, H3, S0, S1, S2⟩
    iapply Hk
    isplitl [S0 S1 S2 Hr]
    · isplitl [S0]; · iexact S0
      isplitl [S1]; · iexact S1
      isplitl [S2]; · iexact S2
      iexact Hr
    isplitl [H1]; · iexact H1
    isplitl [H2]; · iexact H2
    iexact H3
  · have hp : (dats m 0 c).Φ t.castSucc = held m c := inv_pos m c h
    rw [hp]; unfold held
    iintro ⟨⟨S0, S1, S2, Hr⟩, H1, H2, H3, Hk⟩
    iapply (run_rest c (grid0.coords t) _ _ _ _ _ _ _ _ _ _ _ _ (xIn m c) (wIn m c) d2
      (k0_pay9 (xIn m c)) (k0_pay8 (xIn m c) (wIn m c)) (k0_pay7 (xIn m c) (wIn m c)) K (fun e => h ((coord t).symm.trans e)))
    rw [owns0, owns1, owns2]
    isplitl [H1]; · iexact H1
    isplitl [H2]; · iexact H2
    isplitl [H3]; · iexact H3
    isplitl [S0]; · iexact S0
    isplitl [S1]; · iexact S1
    isplitl [S2]; · iexact S2
    iintro ⟨H1, H2, H3, S0, S1, S2⟩
    iapply Hk
    isplitl [S0 S1 S2 Hr]
    · isplitl [S0]; · iexact S0
      isplitl [S1]; · iexact S1
      isplitl [S2]; · iexact S2
      iexact Hr
    isplitl [H1]; · iexact H1
    isplitl [H2]; · iexact H2
    iexact H3

/-- The pipeline's obligation on the body. -/
theorem body_obligation (c : Dev nD) : BodyObligation (dats m 0 c) (defs₀ (F := F)) 𝒱₀ () Set.univ := fun t => by
  rw [bigSep_W0, bigSep_W0, defs₀_row]
  simp only
  rw [show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1]
  iapply (sound_body m c t _ _)
  isplitl [HΦ]; · iexact HΦ
  isplitl [H0]; · iexact H0
  isplitl [H1]; · iexact H1
  isplitl [H2]; · iexact H2
  iintro ⟨HΦ, H0, H1, H2⟩
  isplitl [HΦ]; · iexact HΦ
  isplitl [Ho]; · iexact Ho
  isplitl [H0]; · iexact H0
  isplitl [H1]; · iexact H1
  iexact H2

/-- Every execution ends with each staged array at what the pipeline writes back, every other array unchanged, and
    every counter at zero. -/
theorem run_main : θ_run defs (onTc (τ := τ) (main (F := F))) (s₀ m ρ)
    (fun r => Pipeline.FramePost cfgs (dats m) 0 (V m) r ∧ r.2.sem = fun _ => 0) :=
  Pipeline.θ_run_frame_track cfgs (dats m) 0 launch0 defs₀ 𝒱₀ m ρ main
    (hbody := fun c => (body_obligation m c).loose)
    (hshare := fun c => (dats m 0 c).share_full fun _ => rfl) (howed := fun _ _ => rfl)
    (V := V m) (hmain := hmain m 𝒱₀) (hA := fun _ _ => rfl)
    (hin := fun c => by rw [show (dats m 0 c).Φ 0 = Pipeline.ΦA spec0 c from inv_zero m c rfl])
    (hout := fun c => by
      rw [show (dats m 0 c).Φ (Fin.last cfg0.N) = held m c from inv_pos m c (n := (Fin.last cfg0.N).val) (by rw [Fin.val_last, show cfg0.N = 32 from N_0]; decide)]
      show held m c ⊢ Pipeline.ΦA spec0 c
      unfold Pipeline.ΦA held; rw [scopedRest0_eq]
      iintro ⟨S0, S1, S2, Hr⟩
      isplitl [S0 S1 S2]
      · isplitl [S0]; · iexists _; iexact S0
        isplitl [S1]; · iexists _; iexact S1
        iexists _; iexact S2
      iexact Hr)
    (Q' := _) (hQ' := fun _ h => h)

end Cert.KernelIdeal.Body
end
-- ==== Proof.Frames.lean ====
module

public import proofs.«01_k».proof.Defs
public import proofs.«01_k».proof.Proof.Tracked
public import proofs.«01_k».proof.Proof.KernelTracked
public import proofs.«01_k».proof.Proof.Gen.ReferenceIdeal.Run

@[expose] public section

noncomputable section

namespace Cert.Frames

open Idealize.ShloMosaic Idealize.ShloMosaic.TcCoe Idealize.SL.Sem
open Idealize.ShloMosaic.Pipeline (Dat)

/-- The kernel as written runs, leaves its arguments and every counter as they were. -/
theorem kernel : Cert.quiescent_Kernel := fun m ρ _ =>
  (θ_run Cert.Kernel.defs _ _).mono
    (fun r (h : _ ∧ _) => ⟨fun c =>
      ⟨(h.1 c).1 0 |>.trans ((Cert.Kernel.Body.dats m 0 c).arrAt_in 0 rfl _),
        (h.1 c).2 Cert.Kernel.main_arg1 (Pipeline.mem_restRefs_of Cert.Kernel.main_arg1 (by decide) (by decide)),
        (h.1 c).1 1 |>.trans ((Cert.Kernel.Body.dats m 0 c).arrAt_in 1 rfl _)⟩, h.2⟩)
    (Cert.Kernel.Body.run_main m ρ)

/-- So does its idealization, -/
theorem kernelIdeal : Cert.quiescent_KernelIdeal := fun m ρ _ =>
  (θ_run Cert.KernelIdeal.defs _ _).mono
    (fun r (h : _ ∧ _) => ⟨fun c =>
      ⟨(h.1 c).1 0 |>.trans ((Cert.KernelIdeal.Body.dats m 0 c).arrAt_in 0 rfl _),
        (h.1 c).2 Cert.KernelIdeal.main_arg1 (Pipeline.mem_restRefs_of Cert.KernelIdeal.main_arg1 (by decide) (by decide)),
        (h.1 c).1 1 |>.trans ((Cert.KernelIdeal.Body.dats m 0 c).arrAt_in 1 rfl _)⟩, h.2⟩)
    (Cert.KernelIdeal.Body.run_main m ρ)

/-- and the reference. -/
theorem referenceIdeal : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- The two named constants: each denotes its value at the ideal instance and the literal elsewhere. -/
theorem preserves : Cert.preserves_Kernel_KernelIdeal :=
  ⟨IdealRules.named_const.statement Cert.KernelIdeal.κ "big" .f32 0x7F61B1E6#32 ⊤ rfl,
    IdealRules.named_const.statement Cert.KernelIdeal.κ "neg_log2e" .f32 0xBFB8AA3B#32 ((-((Real.log 2)⁻¹) : ℝ) : EReal) rfl⟩

end Cert.Frames
end
-- ==== Proof.Thresholds.lean ====
module

public import Idealize.ShloMosaic.PureOps
public import Idealize.ShloMosaic.Lib.ValueIdx

@[expose] public section

/-! The least, second least, … value of a set of extended reals, and the two ways the kernel finds one: by
rounds of "take the least, drop it", and from the pool of the five least values of each lane. -/

namespace Cert.Thresholds

/-- The `k`-th least value of `S` counting distinct values from 0, and `⊤` when there is none. -/
noncomputable def Tv (S : Set EReal) : ℕ → EReal
  | 0 => sInf S
  | k + 1 => sInf {v | v ∈ S ∧ Tv S k < v}

theorem tv_le_succ (S : Set EReal) (k : ℕ) : Tv S k ≤ Tv S (k + 1) := by
  show _ ≤ sInf _
  exact le_sInf fun v hv => hv.2.le

theorem tv_mono (S : Set EReal) : Monotone (Tv S) := monotone_nat_of_le_succ (tv_le_succ S)

/-- Taking the least of what lies above `t` is taking the least after all else is replaced by `⊤`. -/
theorem iInf_drop {ι : Type*} (x : ι → EReal) (t : EReal) :
    (⨅ j, if x j ≤ t then ⊤ else x j) = sInf {v | v ∈ Set.range x ∧ t < v} := by
  apply le_antisymm
  · refine le_sInf ?_
    rintro v ⟨⟨j, rfl⟩, hj⟩
    exact iInf_le_of_le j (by rw [if_neg (not_le.2 hj)])
  · refine le_iInf fun j => ?_
    split_ifs with h
    · exact le_top
    · exact sInf_le ⟨⟨j, rfl⟩, not_le.1 h⟩

/-- One round: every entry equal to the least becomes `⊤`. -/
noncomputable def rnd {ι : Type*} (x : ι → EReal) : ι → EReal := fun j => if x j ≤ ⨅ i, x i then ⊤ else x j

theorem rnd_iter {ι : Type*} (x : ι → EReal) (k : ℕ) :
    (⨅ j, rnd^[k] x j) = Tv (Set.range x) k ∧ ∀ j, rnd^[k + 1] x j = if x j ≤ Tv (Set.range x) k then ⊤ else x j := by
  induction k with
  | zero => exact ⟨rfl, fun j => rfl⟩
  | succ k ih =>
    have e : (⨅ j, rnd^[k + 1] x j) = Tv (Set.range x) (k + 1) := by
      simp only [ih.2]
      exact iInf_drop x _
    refine ⟨e, fun j => ?_⟩
    rw [Function.iterate_succ_apply']
    unfold rnd at e ⊢
    rw [e]
    have h2 := ih.2 j
    unfold rnd at h2
    rw [h2]
    by_cases h : x j ≤ Tv (Set.range x) k
    · rw [if_pos h, if_pos (h.trans (tv_le_succ _ k))]
      split_ifs <;> rfl
    · rw [if_neg h]

theorem iInf_rnd {ι : Type*} (x : ι → EReal) (k : ℕ) : (⨅ j, rnd^[k] x j) = Tv (Set.range x) k := (rnd_iter x k).1

/-- A member at most the `n`-th least value is one of the values up to the `n`-th. -/
theorem eq_tv_of_le {L : Set EReal} {v : EReal} (hv : v ∈ L) (n : ℕ) (h : v ≤ Tv L n) : ∃ r ≤ n, v = Tv L r := by
  induction n with
  | zero => exact ⟨0, le_rfl, le_antisymm h (sInf_le hv)⟩
  | succ n ih =>
    by_cases h' : v ≤ Tv L n
    · obtain ⟨r, hr, e⟩ := ih h'
      exact ⟨r, hr.trans n.le_succ, e⟩
    · exact ⟨n + 1, le_rfl, le_antisymm h (sInf_le ⟨hv, not_le.1 h'⟩)⟩

theorem sInf_mem_of_lt_top {A : Set EReal} (hf : A.Finite) (h : sInf A < ⊤) : sInf A ∈ A := by
  rcases A.eq_empty_or_nonempty with e | hn
  · rw [e, sInf_empty] at h
    exact absurd h (lt_irrefl _)
  · exact hn.csInf_mem hf

/-- A value of a finite set below `⊤` is taken. -/
theorem tv_mem {L : Set EReal} (hf : L.Finite) : ∀ r : ℕ, Tv L r < ⊤ → Tv L r ∈ L
  | 0, h => sInf_mem_of_lt_top hf h
  | r + 1, h => (sInf_mem_of_lt_top (hf.subset fun _ hv => hv.1) h : _ ∧ _).1

theorem tv_succ_gt {L : Set EReal} (hf : L.Finite) (r : ℕ) (h : Tv L (r + 1) < ⊤) : Tv L r < Tv L (r + 1) :=
  (sInf_mem_of_lt_top (hf.subset fun _ hv => hv.1) h : _ ∧ _).2

/-- Two sets with the same members up to the `n`-th least of one have the same values up to the `n`-th. -/
theorem tv_congr {S P : Set EReal} (hP : P.Finite) (n : ℕ) (ht : Tv P n < ⊤) (h : ∀ v ≤ Tv P n, v ∈ S ↔ v ∈ P) :
    ∀ k ≤ n, Tv S k = Tv P k := by
  intro k
  induction k with
  | zero =>
    intro _
    have hk := tv_mono P (Nat.zero_le n)
    apply le_antisymm
    · exact sInf_le ((h _ hk).2 (tv_mem hP 0 (hk.trans_lt ht)))
    · refine le_sInf fun v hv => ?_
      by_cases hvt : v ≤ Tv P n
      · exact sInf_le ((h v hvt).1 hv)
      · exact hk.trans (not_le.1 hvt).le
  | succ k ih =>
    intro hkn
    have e := ih (by omega)
    have hk := tv_mono P hkn
    apply le_antisymm
    · refine sInf_le ⟨(h _ hk).2 (tv_mem hP _ (hk.trans_lt ht)), ?_⟩
      rw [e]
      exact tv_succ_gt hP k (hk.trans_lt ht)
    · refine le_sInf fun v hv => ?_
      by_cases hvt : v ≤ Tv P n
      · exact sInf_le ⟨(h v hvt).1 hv.1, e ▸ hv.2⟩
      · exact hk.trans (not_le.1 hvt).le

/-- The pool's threshold is the whole set's when the last value of every lane in the pool lies above it. -/
theorem pool_threshold {C : Type*} [Finite C] [Nonempty C] (L : C → Set EReal) (hL : ∀ c, (L c).Finite) (m n : ℕ)
    (P : Set EReal) (hP : P = {v | ∃ c, ∃ r ≤ m, v = Tv (L c) r}) (h : ∀ c, Tv P n < Tv (L c) m) :
    Tv (⋃ c, L c) n = Tv P n := by
  have hPf : P.Finite := by
    rw [hP]
    have : {v | ∃ c, ∃ r ≤ m, v = Tv (L c) r} = Set.range fun p : C × Fin (m + 1) => Tv (L p.1) p.2.val := by
      ext v
      constructor
      · rintro ⟨c, r, hr, rfl⟩
        exact ⟨(c, ⟨r, by omega⟩), rfl⟩
      · rintro ⟨⟨c, r⟩, rfl⟩
        exact ⟨c, r.val, by omega, rfl⟩
    rw [this]
    exact Set.finite_range _
  have ht : Tv P n < ⊤ := (h (Classical.arbitrary C)).trans_le le_top
  refine tv_congr hPf n ht (fun v hv => ?_) n le_rfl
  constructor
  · intro hS
    obtain ⟨c, hc⟩ := Set.mem_iUnion.1 hS
    obtain ⟨r, hr, e⟩ := eq_tv_of_le hc m (hv.trans (h c).le)
    rw [hP]
    exact ⟨c, r, hr, e⟩
  · intro hv'
    rw [hP] at hv'
    obtain ⟨c, r, hr, e⟩ := hv'
    refine Set.mem_iUnion.2 ⟨c, ?_⟩
    rw [e]
    exact tv_mem (hL c) r (e ▸ hv.trans_lt ht)

/-- Entries listed in strictly increasing order, all the rest above the last: the `k`-th least is the `k`-th listed. -/
theorem tv_listed {ι : Type*} (h : ι → EReal) (σ : ℕ → ι) (n : ℕ) (hs : ∀ a b, a < b → b ≤ n → h (σ a) < h (σ b))
    (hr : ∀ j, (∃ k ≤ n, j = σ k) ∨ h (σ n) < h j) : ∀ k ≤ n, Tv (Set.range h) k = h (σ k) := by
  have hm : ∀ a b, a ≤ b → b ≤ n → h (σ a) ≤ h (σ b) := fun a b hab hb => by
    rcases hab.eq_or_lt with e | e
    · rw [e]
    · exact (hs a b e hb).le
  intro k
  induction k with
  | zero =>
    intro _
    apply le_antisymm
    · exact sInf_le ⟨_, rfl⟩
    · refine le_sInf ?_
      rintro v ⟨j, rfl⟩
      rcases hr j with ⟨m, hmn, rfl⟩ | hj
      · exact hm 0 m (Nat.zero_le _) hmn
      · exact (hm 0 n (Nat.zero_le _) le_rfl).trans hj.le
  | succ k ih =>
    intro hk
    have e := ih (by omega)
    apply le_antisymm
    · exact sInf_le ⟨⟨_, rfl⟩, e ▸ hs k (k + 1) (by omega) hk⟩
    · refine le_sInf ?_
      rintro v ⟨⟨j, rfl⟩, hj⟩
      rw [e] at hj
      rcases hr j with ⟨m, hmn, rfl⟩ | hj'
      · refine hm _ _ ?_ hmn
        by_contra hc
        exact absurd hj (not_lt.2 (hm m k (by omega) (by omega)))
      · exact (hm _ n hk le_rfl).trans hj'.le

theorem le_listed_iff {ι : Type*} (h : ι → EReal) (σ : ℕ → ι) (n : ℕ) (hs : ∀ a b, a < b → b ≤ n → h (σ a) < h (σ b))
    (hr : ∀ j, (∃ k ≤ n, j = σ k) ∨ h (σ n) < h j) (j : ι) : h j ≤ Tv (Set.range h) n ↔ ∃ k ≤ n, j = σ k := by
  rw [tv_listed h σ n hs hr n le_rfl]
  constructor
  · intro hj
    exact (hr j).resolve_right (not_lt.2 hj)
  · rintro ⟨k, hk, rfl⟩
    rcases hk.eq_or_lt with e | e
    · rw [e]
    · exact (hs k n e le_rfl).le

end Cert.Thresholds
-- ==== Proof.KernelRounds.lean ====
module

public import proofs.«01_k».proof.Proof.Body
public import proofs.«01_k».proof.Proof.Thresholds
public import Idealize.ShloMosaic.PureOps.Ideal.Laws
public import Idealize.ShloMosaic.Lib.Pointwise

@[expose] public section

set_option maxRecDepth 16384

noncomputable section

namespace Cert.KernelIdeal.Val

open Cert.KernelIdeal Cert.KernelIdeal.Gen Cert.KernelIdeal.Body Cert.Thresholds
open Idealize.ShloMosaic

theorem ofBits_inf : Ideal.ofBits .f32 0x7F800000#32 = (⊤ : EReal) := by
  simp [Ideal.ofBits, Ideal.ieee]
theorem ofBits_zero : Ideal.ofBits .f32 0x00000000#32 = (0 : EReal) := by
  simp [Ideal.ofBits, Ideal.ieee]
theorem ofBits_one : Ideal.ofBits .f32 0x3F800000#32 = (1 : EReal) := by
  simp [Ideal.ofBits, Ideal.ieee, -EReal.coe_mul]
  norm_num
theorem ofBits_two : Ideal.ofBits .f32 0x40000000#32 = (2 : EReal) := by
  simp [Ideal.ofBits, Ideal.ieee, -EReal.coe_mul]
  norm_num
  rfl
theorem big_eq : (Named.named (F := Ideal) (φ := .f32) κ "big" 0x7F61B1E6#32 : EReal) = ⊤ :=
  IdealRules.named_const.ideal_named_scalar _ _ _ _ rfl
theorem neg_log2e_eq : (Named.named (F := Ideal) (φ := .f32) κ "neg_log2e" 0xBFB8AA3B#32 : EReal) = ((-((Real.log 2)⁻¹) : ℝ) : EReal) :=
  IdealRules.named_const.ideal_named_scalar _ _ _ _ rfl

theorem fold_min {ι : Type*} [Fintype ι] (f : ι → EReal) : Finset.univ.fold min ⊤ f = ⨅ i, f i := by
  rw [← Finset.inf_univ_eq_iInf]
  rfl

/-- The least of each row. -/
def mv8 (x : FVec Ideal S256x8192 .f32) : FVec Ideal S256x1 .f32 :=
  shapeCast S256x1 (multiReduction .minimumf [1] S256 x 0x7F800000#32 reduces_S256x8192_S256 (.inl rfl) rfl) shapeCasts_S256_S256x1
/-- One round of the whole rows. -/
def rv8 (x : FVec Ideal S256x8192 .f32) : FVec Ideal S256x8192 .f32 :=
  select (cmpf .ole x (broadcastTo S256x8192 (mv8 x) broadcasts_S256x1_S256x8192))
    (broadcast S256x8192 (Named.named (F := Ideal) (φ := .f32) κ "big" 0x7F61B1E6#32)) x
/-- The least of each row of the pool. -/
def mv6 (x : FVec Ideal S256x640 .f32) : FVec Ideal S256x1 .f32 :=
  shapeCast S256x1 (multiReduction .minimumf [1] S256 x 0x7F800000#32 reduces_S256x640_S256 (.inl rfl) rfl) shapeCasts_S256_S256x1
/-- One round of the pool. -/
def rv6 (x : FVec Ideal S256x640 .f32) : FVec Ideal S256x640 .f32 :=
  select (cmpf .ole x (broadcastTo S256x640 (mv6 x) broadcasts_S256x1_S256x640))
    (broadcast S256x640 (Named.named (F := Ideal) (φ := .f32) κ "big" 0x7F61B1E6#32)) x

theorem mv8_apply (x : FVec Ideal S256x8192 .f32) (r : Fin 256) : mv8 x (ix2 r 0) = ⨅ l : Fin 8192, x (ix2 r l) := by
  pointwise [mv8]
  rw [ofBits_inf]
  exact fold_min _
theorem rv8_apply (x : FVec Ideal S256x8192 .f32) (r : Fin 256) (l : Fin 8192) : rv8 x (ix2 r l) = rnd (fun l : Fin 8192 => x (ix2 r l)) l := by
  pointwise [rv8]
  unfold rnd
  rw [big_eq, mv8_apply]
theorem mv6_apply (x : FVec Ideal S256x640 .f32) (r : Fin 256) : mv6 x (ix2 r 0) = ⨅ l : Fin 640, x (ix2 r l) := by
  pointwise [mv6]
  rw [ofBits_inf]
  exact fold_min _
theorem rv6_apply (x : FVec Ideal S256x640 .f32) (r : Fin 256) (l : Fin 640) : rv6 x (ix2 r l) = rnd (fun l : Fin 640 => x (ix2 r l)) l := by
  pointwise [rv6]
  unfold rnd
  rw [big_eq, mv6_apply]

theorem rv8_iter (x : FVec Ideal S256x8192 .f32) (r : Fin 256) (k : ℕ) :
    (fun l : Fin 8192 => (rv8^[k] x) (ix2 r l)) = rnd^[k] (fun l : Fin 8192 => x (ix2 r l)) := by
  induction k with
  | zero => rfl
  | succ k ih =>
    rw [Function.iterate_succ_apply', Function.iterate_succ_apply', ← ih]
    funext l
    exact rv8_apply _ r l
theorem rv6_iter (x : FVec Ideal S256x640 .f32) (r : Fin 256) (k : ℕ) :
    (fun l : Fin 640 => (rv6^[k] x) (ix2 r l)) = rnd^[k] (fun l : Fin 640 => x (ix2 r l)) := by
  induction k with
  | zero => rfl
  | succ k ih =>
    rw [Function.iterate_succ_apply', Function.iterate_succ_apply', ← ih]
    funext l
    exact rv6_apply _ r l

end Cert.KernelIdeal.Val
-- ==== Proof.KernelPays.lean ====
module

public import proofs.«01_k».proof.Proof.Body
public import proofs.«01_k».proof.Proof.KernelRounds
public import Idealize.ShloMosaic.PureOps.Ideal.Laws
public import Idealize.ShloMosaic.Lib.Pointwise

@[expose] public section

set_option maxRecDepth 16384

noncomputable section

namespace Cert.KernelIdeal.Val

open Cert.KernelIdeal Cert.KernelIdeal.Gen Cert.KernelIdeal.Body Cert.Thresholds
open Idealize.ShloMosaic

theorem fold_mv8 (x : FVec Ideal S256x8192 .f32) :
    (have v : FVec Ideal S256 .f32 := multiReduction .minimumf [1] S256 x 0x7F800000#32 reduces_S256x8192_S256 (.inl rfl) rfl
     shapeCast S256x1 v shapeCasts_S256_S256x1) = mv8 x := rfl
theorem fold_rv8 (x : FVec Ideal S256x8192 .f32) :
    select (cmpf .ole x (broadcastTo S256x8192 (mv8 x) broadcasts_S256x1_S256x8192))
      (broadcast S256x8192 (Named.named (F := Ideal) (φ := .f32) κ "big" 0x7F61B1E6#32)) x = rv8 x := rfl
theorem fold_mv6 (x : FVec Ideal S256x640 .f32) :
    (have v : FVec Ideal S256 .f32 := multiReduction .minimumf [1] S256 x 0x7F800000#32 reduces_S256x640_S256 (.inl rfl) rfl
     shapeCast S256x1 v shapeCasts_S256_S256x1) = mv6 x := rfl
theorem fold_rv6 (x : FVec Ideal S256x640 .f32) :
    select (cmpf .ole x (broadcastTo S256x640 (mv6 x) broadcasts_S256x1_S256x640))
      (broadcast S256x640 (Named.named (F := Ideal) (φ := .f32) κ "big" 0x7F61B1E6#32)) x = rv6 x := rfl

theorem pay3_eq (h : FVec Ideal S256x8192 .f32) : k0_pay3 h = rv8^[7] h := by
  have f := fold_mv8
  dsimp only at f
  simp only [k0_pay3, f, fold_rv8, Function.iterate_succ, Function.iterate_zero, Function.comp_apply, id]
theorem pay4_eq (h : FVec Ideal S256x8192 .f32) : k0_pay4 h = broadcastTo S256x8192 (mv8 (k0_pay3 h)) broadcasts_S256x1_S256x8192 := rfl
theorem pay5_eq (x : FVec Ideal S256x8192 .f32) : k0_pay5 x (broadcastTo S256x8192 (mv8 x) broadcasts_S256x1_S256x8192) = rv8^[8] x := by
  have f := fold_mv8
  dsimp only at f
  simp only [k0_pay5, f, fold_rv8, Function.iterate_succ, Function.iterate_zero, Function.comp_apply, id]
theorem pay1_eq (x : FVec Ideal S256x8192 .f32) : k0_pay1 x = mv8 (rv8^[4] x) := by
  have f := fold_mv8
  dsimp only at f
  simp only [k0_pay1, f, fold_rv8, Function.iterate_succ, Function.iterate_zero, Function.comp_apply, id]

/-- The threshold selected from the whole rows is the value of rank 19 of each. -/
theorem full_apply (a : Vec Ideal S256x16 .f32) (b : Vec Ideal S16x8192 .f32) (q : Vec Ideal S1x8192 .f32) (r : Fin 256) :
    fullOf a b q (ix2 r 0) = Tv (Set.range fun l : Fin 8192 => hOf a b q (ix2 r l)) 19 := by
  unfold fullOf
  rw [pay4_eq, pay5_eq, pay1_eq, pay3_eq, ← Function.iterate_add_apply, ← Function.iterate_add_apply, mv8_apply, rv8_iter]
  exact iInf_rnd _ 19

/-- What the pool's selection returns, of the pool. -/
theorem pay22_eq (x : FVec Ideal S256x640 .f32) : k0_pay22 x = mv6 (rv6^[5] x) := by
  have f := fold_mv6
  dsimp only at f
  simp only [k0_pay22, f, fold_rv6, Function.iterate_succ, Function.iterate_zero, Function.comp_apply, id]
theorem pay21_eq (x : FVec Ideal S256x640 .f32) : k0_pay21 x (broadcastTo S256x640 (mv6 x) broadcasts_S256x1_S256x640) = rv6^[8] x := by
  have f := fold_mv6
  dsimp only at f
  simp only [k0_pay21, f, fold_rv6, Function.iterate_succ, Function.iterate_zero, Function.comp_apply, id]

end Cert.KernelIdeal.Val
-- ==== Proof.KernelThreshold.lean ====
module

public import proofs.«01_k».proof.Proof.KernelPays

@[expose] public section

set_option maxRecDepth 16384

noncomputable section

namespace Cert.KernelIdeal.Val

open Cert.KernelIdeal Cert.KernelIdeal.Gen Cert.KernelIdeal.Body Cert.Thresholds
open Idealize.ShloMosaic

variable (a : Vec Ideal S256x16 .f32) (b : Vec Ideal S16x8192 .f32) (q : Vec Ideal S1x8192 .f32)

theorem fold_lane (x : Fin 64 → EReal) (t : EReal) (k : ℕ) (ht : t = Tv (Set.range x) k) :
    Finset.univ.fold min (Ideal.ofBits .f32 0x7F800000#32) (fun s => if t < x s then x s else Named.named (F := Ideal) (φ := .f32) κ "big" 0x7F61B1E6#32)
      = Tv (Set.range x) (k + 1) := by
  rw [ofBits_inf, big_eq, fold_min]
  show _ = sInf _
  rw [← ht, ← iInf_drop]
  refine iInf_congr fun s => ?_
  by_cases h : t < x s
  · rw [if_pos h, if_neg (not_le.2 h)]
  · rw [if_neg h, if_pos (not_lt.1 h)]

/-- The entries of lane `c` of row `r`. -/
def lane (r : Fin 256) (c : Fin 128) : Set EReal := Set.range fun s : Fin 64 => k0_pay12 a b q (ix3 r s c)

theorem pay12_apply (r : Fin 256) (s : Fin 64) (c : Fin 128) :
    k0_pay12 a b q (ix3 r s c) = hOf a b q (ix2 r ⟨s.val * 128 + c.val, by omega⟩) := by
  have e : k0_pay12 a b q = shapeCast S256x64x128 (hOf a b q) shapeCasts_S256x8192_S256x64x128 := rfl
  rw [e]
  generalize hOf a b q = h
  pointwise

theorem iUnion_lane (r : Fin 256) : (⋃ c, lane a b q r c) = Set.range fun l : Fin 8192 => hOf a b q (ix2 r l) := by
  ext v
  simp only [lane, Set.mem_iUnion, Set.mem_range, pay12_apply]
  constructor
  · rintro ⟨c, s, e⟩
    exact ⟨_, e⟩
  · rintro ⟨l, e⟩
    refine ⟨⟨l.val % 128, by omega⟩, ⟨l.val / 128, by omega⟩, ?_⟩
    rw [← e]
    congr 2
    apply Fin.ext
    show l.val / 128 * 128 + l.val % 128 = l.val
    omega

theorem pay13_apply (r : Fin 256) (c : Fin 128) : k0_pay13 a b q (ix2 r c) = Tv (lane a b q r c) 0 := by
  unfold k0_pay13 lane
  generalize k0_pay12 a b q = x
  pointwise
  rw [ofBits_inf, fold_min]
  rfl
theorem pay14_apply (r : Fin 256) (c : Fin 128) : k0_pay14 a b q (ix2 r c) = Tv (lane a b q r c) 1 := by
  have ih := pay13_apply a b q r c
  unfold k0_pay14 lane
  unfold lane at ih
  generalize k0_pay12 a b q = x at *
  generalize k0_pay13 a b q = y at *
  pointwise
  exact fold_lane _ _ 0 ih
theorem pay15_apply (r : Fin 256) (c : Fin 128) : k0_pay15 a b q (ix2 r c) = Tv (lane a b q r c) 2 := by
  have ih := pay14_apply a b q r c
  unfold k0_pay15 lane
  unfold lane at ih
  generalize k0_pay12 a b q = x at *
  generalize k0_pay14 a b q = y at *
  pointwise
  exact fold_lane _ _ 1 ih
theorem pay16_apply (r : Fin 256) (c : Fin 128) : k0_pay16 a b q (ix2 r c) = Tv (lane a b q r c) 3 := by
  have ih := pay15_apply a b q r c
  unfold k0_pay16 lane
  unfold lane at ih
  generalize k0_pay12 a b q = x at *
  generalize k0_pay15 a b q = y at *
  pointwise
  exact fold_lane _ _ 2 ih
theorem pay18_apply (r : Fin 256) (c : Fin 128) : k0_pay18 (k0_pay12 a b q) (k0_pay17 a b q) (ix2 r c) = Tv (lane a b q r c) 4 := by
  have ih := pay16_apply a b q r c
  unfold k0_pay18 k0_pay17 lane
  unfold lane at ih
  generalize k0_pay12 a b q = x at *
  generalize k0_pay16 a b q = y at *
  pointwise
  exact fold_lane _ _ 3 ih

/-- The pool before any round. -/
def pool0 (m1 m2 m3 m4 m5 : FVec Ideal S256x128 .f32) : FVec Ideal S256x640 .f32 :=
  concatenate S256x640 1 [⟨S256x128, m1⟩, ⟨S256x128, m2⟩, ⟨S256x128, m3⟩, ⟨S256x128, m4⟩, ⟨S256x128, m5⟩]
    concatenates_S256x128_S256x128_S256x128_S256x128_S256x128_S256x640_d1
theorem fold_pool0 (m1 m2 m3 m4 m5 : FVec Ideal S256x128 .f32) :
    concatenate S256x640 1 [⟨S256x128, m1⟩, ⟨S256x128, m2⟩, ⟨S256x128, m3⟩, ⟨S256x128, m4⟩, ⟨S256x128, m5⟩]
      concatenates_S256x128_S256x128_S256x128_S256x128_S256x128_S256x640_d1 = pool0 m1 m2 m3 m4 m5 := rfl

theorem pay19_eq (x : FVec Ideal S256x64x128 .f32) (m1 m2 m3 m4 : FVec Ideal S256x128 .f32) (f : FVec Ideal S256x1x128 .f32) :
    k0_pay19 x m1 m2 m3 m4 f = rv6^[6] (pool0 m1 m2 m3 m4 (k0_pay18 x f)) := by
  have g := fold_mv6
  dsimp only at g
  simp only [k0_pay19, fold_pool0, g, fold_rv6, Function.iterate_succ, Function.iterate_zero, Function.comp_apply, id]
theorem pay20_eq (x : FVec Ideal S256x64x128 .f32) (m1 m2 m3 m4 : FVec Ideal S256x128 .f32) (f : FVec Ideal S256x1x128 .f32) :
    k0_pay20 x m1 m2 m3 m4 f = broadcastTo S256x640 (mv6 (k0_pay19 x m1 m2 m3 m4 f)) broadcasts_S256x1_S256x640 := by
  have g := fold_mv6
  dsimp only at g
  simp only [k0_pay20, g]

/-- The pool of a row holds the five least values of each lane. -/
theorem range_pool0 (m : Fin 128 → ℕ → EReal) (m1 m2 m3 m4 m5 : FVec Ideal S256x128 .f32) (r : Fin 256)
    (h1 : ∀ c, m1 (ix2 r c) = m c 0) (h2 : ∀ c, m2 (ix2 r c) = m c 1) (h3 : ∀ c, m3 (ix2 r c) = m c 2)
    (h4 : ∀ c, m4 (ix2 r c) = m c 3) (h5 : ∀ c, m5 (ix2 r c) = m c 4) :
    (Set.range fun l : Fin 640 => pool0 m1 m2 m3 m4 m5 (ix2 r l)) = {v | ∃ c, ∃ k ≤ 4, v = m c k} := by
  have e : ∀ l : Fin 640, pool0 m1 m2 m3 m4 m5 (ix2 r l) = m ⟨l.val % 128, by omega⟩ (l.val / 128) := by
    intro l
    pointwise [pool0]
    by_cases p1 : l.val < 128
    · refine (dif_pos p1).trans ?_
      refine (h1 _).trans ?_
      congr 1
      · congr 1; omega
      · omega
    refine (dif_neg p1).trans ?_
    by_cases p2 : l.val - 128 < 128
    · refine (dif_pos p2).trans ?_
      refine (h2 _).trans ?_
      congr 1
      · congr 1; omega
      · omega
    refine (dif_neg p2).trans ?_
    by_cases p3 : l.val - 128 - 128 < 128
    · refine (dif_pos p3).trans ?_
      refine (h3 _).trans ?_
      congr 1
      · congr 1; omega
      · omega
    refine (dif_neg p3).trans ?_
    by_cases p4 : l.val - 128 - 128 - 128 < 128
    · refine (dif_pos p4).trans ?_
      refine (h4 _).trans ?_
      congr 1
      · congr 1; omega
      · omega
    refine (dif_neg p4).trans ?_
    refine (h5 _).trans ?_
    congr 1
    · congr 1; omega
    · omega
  ext v
  constructor
  · rintro ⟨l, rfl⟩
    exact ⟨_, _, by omega, e l⟩
  · rintro ⟨c, k, hk, rfl⟩
    refine ⟨⟨k * 128 + c.val, by omega⟩, ?_⟩
    refine (e _).trans ?_
    congr 1
    · apply Fin.ext
      show (k * 128 + c.val) % 128 = c.val
      omega
    · show (k * 128 + c.val) / 128 = k
      omega

theorem rounds_apply (x : FVec Ideal S256x640 .f32) (r : Fin 256) (k : ℕ) :
    mv6 (rv6^[k] x) (ix2 r 0) = Tv (Set.range fun l : Fin 640 => x (ix2 r l)) k := by
  rw [mv6_apply, rv6_iter]
  exact iInf_rnd _ k

theorem select_pool (x : FVec Ideal S256x640 .f32) :
    k0_pay22 (k0_pay21 (rv6^[6] x) (broadcastTo S256x640 (mv6 (rv6^[6] x)) broadcasts_S256x1_S256x640)) = mv6 (rv6^[19] x) := by
  rw [pay21_eq, pay22_eq, ← Function.iterate_add_apply, ← Function.iterate_add_apply]

theorem pool_apply (r : Fin 256) :
    k0_pay22 (poolOf a b q) (ix2 r 0) = Tv {v | ∃ c, ∃ k ≤ 4, v = Tv (lane a b q r c) k} 19 := by
  have e := range_pool0 (fun c k => Tv (lane a b q r c) k) _ _ _ _ _ r (pay13_apply a b q r) (pay14_apply a b q r) (pay15_apply a b q r)
    (pay16_apply a b q r) (pay18_apply a b q r)
  rw [← e]
  unfold poolOf
  rw [pay20_eq, pay19_eq]
  generalize pool0 (k0_pay13 a b q) (k0_pay14 a b q) (k0_pay15 a b q) (k0_pay16 a b q) (k0_pay18 (k0_pay12 a b q) (k0_pay17 a b q)) = x
  rw [select_pool]
  exact rounds_apply x r 19

theorem cond_pos (x : EReal) (h : Scalar.cmpi .ne (Scalar.extui (Scalar.cmpf .ogt (x : Ideal .f32) (Scalar.ofBits .f32 0x00000000#32 : Ideal .f32)) : BitVec 32) 0#32 = 1#1) :
    0 < x := by
  by_contra hc
  have e : Scalar.cmpf .ogt (x : Ideal .f32) (Scalar.ofBits .f32 0x00000000#32 : Ideal .f32) = 0#1 := by
    show BitVec.ofBool (decide (Ideal.ofBits .f32 0x00000000#32 < x)) = _
    rw [ofBits_zero, decide_eq_false hc]
    rfl
  rw [e] at h
  revert h
  decide

/-- Where the check succeeds the last value of every lane in the pool lies above the pool's threshold. -/
theorem ok_apply (h : okOf a b q = 1#1) (r : Fin 256) (c : Fin 128) :
    k0_pay22 (poolOf a b q) (ix2 r 0) < Tv (lane a b q r c) 4 := by
  rw [← pay18_apply]
  unfold okOf at h
  have hp := cond_pos _ h
  unfold k0_pay23 at hp
  generalize k0_pay18 (k0_pay12 a b q) (k0_pay17 a b q) = m at *
  generalize k0_pay22 (poolOf a b q) = t at *
  pointwise at hp
  rw [ofBits_inf, fold_min] at hp
  have := hp.trans_le (iInf_le _ (r, c))
  by_contra hc
  rw [if_neg hc] at this
  exact absurd this (lt_irrefl _)

/-- Either way the threshold is the value of rank 19 of the row. -/
theorem thr_apply (r : Fin 256) : thrOf a b q (ix2 r 0) = Tv (Set.range fun l : Fin 8192 => hOf a b q (ix2 r l)) 19 := by
  unfold thrOf
  by_cases h : okOf a b q = 1#1
  · rw [if_pos h, ← iUnion_lane, pool_apply]
    refine (pool_threshold (lane a b q r) (fun c => Set.finite_range _) 4 19 _ rfl fun c => ?_).symm
    rw [← pool_apply]
    exact ok_apply a b q h r c
  · rw [if_neg h]
    exact full_apply a b q r

end Cert.KernelIdeal.Val
-- ==== Proof.RowMath.lean ====
module

public import proofs.«01_k».proof.Proof.Thresholds

@[expose] public section

/-! One row of the weights: which of them are kept, what they are, and what their average is. -/

noncomputable section

namespace Cert.RowMath

open Idealize.ShloMosaic Cert.Thresholds

theorem coe_sum' {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max' (a b : ℝ) : ((max a b : ℝ) : EReal) = max (a : EReal) (b : EReal) := EReal.coe_strictMono.monotone.map_max

theorem mul_self_nonneg' (x : EReal) : 0 ≤ x * x := by
  induction x using EReal.rec with
  | bot => simp
  | coe r => rw [← EReal.coe_mul]; exact_mod_cast mul_self_nonneg r
  | top => simp

variable (f : Fin 8192 → Fin 16 → EReal)

/-- A row's squared length. -/
def sqOf (i : Fin 8192) : EReal := ∑ k : Fin 16, f i k * f i k
/-- Two rows' inner product. -/
def dotOf (i j : Fin 8192) : EReal := ∑ k : Fin 16, f i k * f j k
/-- The kernel's distance, less the row's own squared length. -/
def hRow (i j : Fin 8192) : EReal := sqOf f j - 2 * dotOf f i j
/-- The reference's weight. -/
def wRow (i j : Fin 8192) : EReal := Ideal.exp (-(max (sqOf f i + sqOf f j - 2 * dotOf f i j) 0))
/-- The kernel's weight. -/
def aRow (i j : Fin 8192) : EReal :=
  if hRow f i j ≤ Tv (Set.range (hRow f i)) 19 then
    Ideal.exp2 (max (hRow f i j + sqOf f i) 0 * ((-((Real.log 2)⁻¹) : ℝ) : EReal))
  else 0

/-- `σ` lists the columns with their weights descending, the first 21 strictly. -/
structure Ordered (w : Fin 8192 → EReal) (σ : ℕ → Fin 8192) : Prop where
  surj : ∀ j, ∃ l < 8192, j = σ l
  sorted : ∀ a b, a < b → b < 8192 → w (σ b) ≤ w (σ a)
  strict : ∀ k < 20, w (σ (k + 1)) < w (σ k)

theorem sq_nonneg' (i : Fin 8192) : 0 ≤ sqOf f i := Finset.sum_nonneg fun k _ => mul_self_nonneg' _

/-- Three weights of one row differ, so its squared length is finite. -/
theorem sq_ne_top (i : Fin 8192) (σ : ℕ → Fin 8192) (h : Ordered (wRow f i) σ) : sqOf f i ≠ ⊤ := by
  intro ht
  have two : ∀ j, wRow f i j = 0 ∨ wRow f i j = 1 := by
    intro j
    unfold wRow
    rw [ht, EReal.top_add_of_ne_bot (ne_of_gt (lt_of_lt_of_le (EReal.bot_lt_coe 0) (sq_nonneg' f j)))]
    by_cases hz : 2 * dotOf f i j = ⊤
    · right
      rw [hz, EReal.sub_top, max_eq_right bot_le, neg_zero]
      show ((Real.exp 0 : ℝ) : EReal) = 1
      rw [Real.exp_zero]
      rfl
    · left
      rw [EReal.top_sub hz, max_eq_left le_top, EReal.neg_top]
      rfl
  have z1 : ¬ ((1 : EReal) < 0) := not_lt.2 zero_le_one
  have h0 := h.strict 0 (by omega)
  have h1 := h.strict 1 (by omega)
  rcases two (σ 0) with e0 | e0 <;> rcases two (σ 1) with e1 | e1 <;> rcases two (σ 2) with e2 | e2 <;>
    simp [e0, e1, e2, z1] at h0 h1

theorem real_of_sq (i : Fin 8192) (h : sqOf f i ≠ ⊤) (k : Fin 16) : ∃ r : ℝ, f i k = r := by
  have hk : f i k * f i k ≤ sqOf f i := Finset.single_le_sum (f := fun k => f i k * f i k) (fun k _ => mul_self_nonneg' _) (Finset.mem_univ k)
  have hn : f i k * f i k ≠ ⊤ := fun e => h (top_le_iff.1 (e ▸ hk))
  revert hn
  induction f i k using EReal.rec with
  | bot => intro hn; simp at hn
  | coe r => intro _; exact ⟨r, rfl⟩
  | top => intro hn; simp at hn

theorem exp2_eq (r : ℝ) : Ideal.exp2 ((r : EReal) * ((-((Real.log 2)⁻¹) : ℝ) : EReal)) = ((Real.exp (-r) : ℝ) : EReal) := by
  rw [← EReal.coe_mul]
  show ((Real.rpow 2 (r * -((Real.log 2)⁻¹)) : ℝ) : EReal) = _
  have hl : Real.log 2 ≠ 0 := (Real.log_pos (by norm_num)).ne'
  have : Real.rpow 2 (r * -((Real.log 2)⁻¹)) = Real.exp (-r) := by
    show (2 : ℝ) ^ (r * -((Real.log 2)⁻¹)) = _
    rw [Real.rpow_def_of_pos (by norm_num)]
    congr 1
    field_simp
  rw [this]

section real
variable (F : Fin 8192 → Fin 16 → ℝ)

def sqR (i : Fin 8192) : ℝ := ∑ k : Fin 16, F i k * F i k
def dotR (i j : Fin 8192) : ℝ := ∑ k : Fin 16, F i k * F j k

theorem sq_coe (i : Fin 8192) : sqOf (fun i k => (F i k : EReal)) i = (sqR F i : EReal) := by
  unfold sqOf sqR
  rw [coe_sum']
  simp only [EReal.coe_mul]
theorem dot_coe (i j : Fin 8192) : dotOf (fun i k => (F i k : EReal)) i j = (dotR F i j : EReal) := by
  unfold dotOf dotR
  rw [coe_sum']
  simp only [EReal.coe_mul]
theorem h_coe (i j : Fin 8192) : hRow (fun i k => (F i k : EReal)) i j = ((sqR F j - 2 * dotR F i j : ℝ) : EReal) := by
  unfold hRow
  rw [sq_coe, dot_coe, EReal.coe_sub, EReal.coe_mul]
  rfl
theorem w_coe (i j : Fin 8192) :
    wRow (fun i k => (F i k : EReal)) i j = ((Real.exp (-(max (sqR F j - 2 * dotR F i j + sqR F i) 0)) : ℝ) : EReal) := by
  have e : sqOf (fun i k => (F i k : EReal)) i + sqOf (fun i k => (F i k : EReal)) j - 2 * dotOf (fun i k => (F i k : EReal)) i j
      = ((sqR F j - 2 * dotR F i j + sqR F i : ℝ) : EReal) := by
    rw [sq_coe, sq_coe, dot_coe]
    have : (sqR F j - 2 * dotR F i j + sqR F i : ℝ) = sqR F i + sqR F j - 2 * dotR F i j := by ring
    rw [this, EReal.coe_sub, EReal.coe_mul, EReal.coe_add]
    rfl
  unfold wRow
  rw [e, ← EReal.coe_zero, ← coe_max', ← EReal.coe_neg]
  rfl

open Classical in
/-- The kept columns are the first 20 listed, and the kernel's weight there is the reference's. -/
theorem a_coe (i : Fin 8192) (σ : ℕ → Fin 8192) (h : Ordered (wRow (fun i k => (F i k : EReal)) i) σ) (j : Fin 8192) :
    aRow (fun i k => (F i k : EReal)) i j
      = if ∃ k < 20, j = σ k then ((Real.exp (-(max (sqR F j - 2 * dotR F i j + sqR F i) 0)) : ℝ) : EReal) else 0 := by
  have lt_of : ∀ a b, wRow (fun i k => (F i k : EReal)) i b < wRow (fun i k => (F i k : EReal)) i a →
      hRow (fun i k => (F i k : EReal)) i a < hRow (fun i k => (F i k : EReal)) i b := by
    intro a b hab
    rw [w_coe, w_coe, EReal.coe_lt_coe_iff, Real.exp_lt_exp, neg_lt_neg_iff] at hab
    rw [h_coe, h_coe, EReal.coe_lt_coe_iff]
    by_contra hc
    have : sqR F b - 2 * dotR F i b + sqR F i ≤ sqR F a - 2 * dotR F i a + sqR F i := by linarith
    exact absurd hab (not_lt.2 (max_le_max this le_rfl))
  have wlt : ∀ a b, a < b → a ≤ 19 → b < 8192 → wRow (fun i k => (F i k : EReal)) i (σ b) < wRow (fun i k => (F i k : EReal)) i (σ a) := by
    intro a b hab ha hb
    have h1 := h.strict a (by omega)
    rcases (Nat.succ_le_of_lt hab).eq_or_lt with e | e
    · rw [← e]; exact h1
    · exact (h.sorted (a + 1) b e hb).trans_lt h1
  have hs : ∀ a b, a < b → b ≤ 19 → hRow (fun i k => (F i k : EReal)) i (σ a) < hRow (fun i k => (F i k : EReal)) i (σ b) :=
    fun a b hab hb => lt_of _ _ (wlt a b hab (by omega) (by omega))
  have hr : ∀ j, (∃ k ≤ 19, j = σ k) ∨ hRow (fun i k => (F i k : EReal)) i (σ 19) < hRow (fun i k => (F i k : EReal)) i j := by
    intro j
    obtain ⟨l, hl, rfl⟩ := h.surj j
    by_cases h19 : l ≤ 19
    · exact .inl ⟨l, h19, rfl⟩
    · exact .inr (lt_of _ _ (wlt 19 l (by omega) le_rfl hl))
  have iff := le_listed_iff (hRow (fun i k => (F i k : EReal)) i) σ 19 hs hr j
  unfold aRow
  by_cases hk : ∃ k < 20, j = σ k
  · rw [if_pos hk, if_pos (iff.2 (by obtain ⟨k, hk, e⟩ := hk; exact ⟨k, by omega, e⟩)), h_coe, sq_coe, ← EReal.coe_add,
      ← EReal.coe_zero, ← coe_max', exp2_eq]
  · rw [if_neg hk, if_neg]
    intro hle
    obtain ⟨k, hk', e⟩ := iff.1 hle
    exact hk ⟨k, by omega, e⟩

end real

open Classical in
/-- The kernel's average of a column and the reference's. -/
theorem average (i : Fin 8192) (hf : ∀ i, ∃ σ, Ordered (wRow f i) σ) (σ : ℕ → Fin 8192) (h : Ordered (wRow f i) σ) (s : Fin 8192 → EReal)
    (hs : ∀ j, s j = if ∃ k < 20, j = σ k then wRow f i j else 0) (x : Fin 8192 → EReal) :
    Ideal.div (∑ j, aRow f i j * x j) (∑ j, aRow f i j * 1) = ∑ j, Ideal.div (s j) (∑ j, s j) * x j := by
  have hreal : ∀ i k, ∃ r : ℝ, f i k = r := fun i k => by
    obtain ⟨τ, hτ⟩ := hf i
    exact real_of_sq f i (sq_ne_top f i τ hτ) k
  choose F hF using hreal
  obtain rfl : f = fun i k => (F i k : EReal) := funext fun i => funext fun k => hF i k
  have ea : ∀ j, s j = aRow (fun i k => (F i k : EReal)) i j := fun j => by
    rw [hs, a_coe F i σ h, w_coe]
    by_cases hk : ∃ k < 20, j = σ k
    · rw [if_pos hk, if_pos hk]
    · rw [if_neg hk, if_neg hk]
  obtain ⟨A, hA⟩ : ∃ A : Fin 8192 → ℝ, (∀ j, 0 ≤ A j) ∧ 0 < A (σ 0) ∧ ∀ j, aRow (fun i k => (F i k : EReal)) i j = (A j : EReal) := by
    refine ⟨fun j => if ∃ k < 20, j = σ k then Real.exp (-(max (sqR F j - 2 * dotR F i j + sqR F i) 0)) else 0, fun j => ?_, ?_, fun j => ?_⟩
    · dsimp only
      split_ifs
      · exact (Real.exp_pos _).le
      · exact le_rfl
    · dsimp only
      rw [if_pos ⟨0, by omega, rfl⟩]
      exact Real.exp_pos _
    · rw [a_coe F i σ h]
      dsimp only
      by_cases hk : ∃ k < 20, j = σ k
      · rw [if_pos hk, if_pos hk]
      · rw [if_neg hk, if_neg hk]
        rfl
  obtain ⟨hA0, hApos, hA⟩ := hA
  have hS : 0 < ∑ j, A j := Finset.sum_pos' (fun j _ => hA0 j) ⟨σ 0, Finset.mem_univ _, hApos⟩
  simp only [ea, hA, mul_one]
  rw [← coe_sum', Ideal.div_coe hS.ne']
  have hc : (0 : EReal) ≤ ((1 / ∑ j, A j : ℝ) : EReal) := by
    exact_mod_cast (one_div_pos.2 hS).le
  have hc' : ((1 / ∑ j, A j : ℝ) : EReal) ≠ ⊤ := EReal.coe_ne_top _
  rw [mul_comm]
  have dist : ∀ (t : Finset (Fin 8192)) (y : Fin 8192 → EReal), ((1 / ∑ j, A j : ℝ) : EReal) * ∑ j ∈ t, y j = ∑ j ∈ t, ((1 / ∑ j, A j : ℝ) : EReal) * y j := by
    intro t y
    induction t using Finset.induction_on with
    | empty => simp
    | insert a t ha ih => rw [Finset.sum_insert ha, Finset.sum_insert ha, EReal.left_distrib_of_nonneg_of_ne_top hc hc', ih]
  rw [dist]
  refine Finset.sum_congr rfl fun j _ => ?_
  rw [Ideal.div_coe hS.ne', ← mul_assoc, mul_comm (A j : EReal)]

end Cert.RowMath
-- ==== Proof.KernelValue.lean ====
module

public import proofs.«01_k».proof.Proof.KernelThreshold
public import proofs.«01_k».proof.Proof.Tracked
public import proofs.«01_k».proof.Proof.RowMath
public import Idealize.ShloMosaic.Lib.Pointwise
public import Idealize.ShloMosaic.Lib.Pipeline.ValueKit

@[expose] public section

set_option maxRecDepth 16384

noncomputable section

namespace Cert.KernelIdeal.Val

open Cert.KernelIdeal Cert.KernelIdeal.Gen Cert.KernelIdeal.Body Cert.Thresholds Cert.RowMath
open Idealize.ShloMosaic Idealize.ShloMosaic.TcCoe

variable (x : Vec Ideal S8192x64 .f32) (W : Vec Ideal S16x64 .f32)

/-- The features of a point, as the kernel computes them. -/
def ks (i : Fin 8192) (k : Fin 16) : EReal := ∑ d : Fin 64, x (ix2 i d) * W (ix2 k d)

theorem pay6_apply (i : Fin 8192) (k : Fin 16) : k0_pay6 x W (ix2 i k) = ks x W i k := by
  pointwise [k0_pay6]
  rfl
theorem pay7_apply (i : Fin 8192) (k : Fin 16) : k0_pay7 x W (ix2 i k) = ks x W i k := by
  rw [← pay6_apply]
  unfold k0_pay7
  generalize k0_pay6 x W = f
  pointwise
theorem pay8_apply (k : Fin 16) (j : Fin 8192) : k0_pay8 x W (ix2 (⟨k.val, by omega⟩ : Fin 17) j) = ks x W j k := by
  rw [← pay6_apply]
  unfold k0_pay8
  generalize k0_pay6 x W = f
  pointwise
theorem pay8_last (j : Fin 8192) : k0_pay8 x W (ix2 (16 : Fin 17) j) = sqOf (ks x W) j := by
  unfold k0_pay8 sqOf
  simp only [← pay6_apply]
  generalize k0_pay6 x W = f
  pointwise
theorem pay9_apply (j : Fin 8192) (d : Fin 64) : k0_pay9 x (ix2 j (⟨d.val, by omega⟩ : Fin 65)) = x (ix2 j d) := by
  unfold k0_pay9
  pointwise
theorem pay9_last (j : Fin 8192) : k0_pay9 x (ix2 j (64 : Fin 65)) = (1 : EReal) := by
  unfold k0_pay9
  pointwise
theorem pay10_apply (q : Vec Ideal S1x256 .f32) (r : Fin 256) : k0_pay10 q (ix2 r 0) = q (ix2 0 r) := by
  pointwise [k0_pay10]
theorem pay11_apply (a : Vec Ideal S256x16 .f32) (b : Vec Ideal S16x8192 .f32) (q : Vec Ideal S1x8192 .f32) (r : Fin 256) (l : Fin 8192) :
    k0_pay11 a b q (ix2 r l) = q (ix2 0 l) - 2 * ∑ k : Fin 16, a (ix2 r k) * b (ix2 k l) := by
  pointwise [k0_pay11]
  rw [ofBits_two]
theorem pay2_apply (q : Vec Ideal S256x1 .f32) (h : Vec Ideal S256x8192 .f32) (t : Vec Ideal S256x1 .f32) (xa : Vec Ideal S8192x65 .f32) (r : Fin 256) (d : Fin 64) :
    k0_pay2 q h t xa (ix2 r d) = Ideal.div
      (∑ l : Fin 8192, (if h (ix2 r l) ≤ t (ix2 r 0) then Ideal.exp2 (max (h (ix2 r l) + q (ix2 r 0)) 0 * ((-((Real.log 2)⁻¹) : ℝ) : EReal)) else 0) * xa (ix2 l (⟨d.val, by omega⟩ : Fin 65)))
      (∑ l : Fin 8192, (if h (ix2 r l) ≤ t (ix2 r 0) then Ideal.exp2 (max (h (ix2 r l) + q (ix2 r 0)) 0 * ((-((Real.log 2)⁻¹) : ℝ) : EReal)) else 0) * xa (ix2 l (64 : Fin 65))) := by
  pointwise [k0_pay2]
  rw [neg_log2e_eq]
  rfl

variable (i : grid0.Coords)

theorem fRows_apply (f : Vec Ideal S8192x16 .f32) (r : Fin 256) (k : Fin 16) (n : Fin 8192) (hn : n.val = 256 * (i 0).val + r.val) :
    fRows i f (ix2 r k) = f (ix2 n k) := by
  refine congrArg f (funext fun a => Fin.ext ?_)
  match a with
  | ⟨0, _⟩ =>
    show k0_off1 i 0 + 1 * r.val = n.val
    rw [k0_off1_eq, hn]
    show 256 * (i 0).val + 1 * r.val = _
    omega
  | ⟨1, _⟩ =>
    show k0_off1 i 1 + 1 * k.val = k.val
    rw [k0_off1_eq]
    show 0 + 1 * k.val = _
    omega
theorem ftRows_apply (fa : Vec Ideal S17x8192 .f32) (k : Fin 16) (l : Fin 8192) :
    ftRows fa (ix2 k l) = fa (ix2 (⟨k.val, by omega⟩ : Fin 17) l) := by
  refine congrArg fa (funext fun a => Fin.ext ?_)
  match a with
  | ⟨0, _⟩ =>
    show 0 + 1 * k.val = k.val
    omega
  | ⟨1, _⟩ =>
    show 0 + 1 * l.val = l.val
    omega
theorem sqRow_apply (fa : Vec Ideal S17x8192 .f32) (l : Fin 8192) : sqRow fa (ix2 0 l) = fa (ix2 (16 : Fin 17) l) := by
  refine congrArg fa (funext fun a => Fin.ext ?_)
  match a with
  | ⟨0, _⟩ => rfl
  | ⟨1, _⟩ =>
    show 0 + 1 * l.val = l.val
    omega
theorem sqCols_apply (fa : Vec Ideal S17x8192 .f32) (r : Fin 256) (n : Fin 8192) (hn : n.val = 256 * (i 0).val + r.val) :
    sqCols i fa (ix2 0 r) = fa (ix2 (16 : Fin 17) n) := by
  refine congrArg fa (funext fun a => Fin.ext ?_)
  match a with
  | ⟨0, _⟩ =>
    show k0_off2 i 0 + 1 * 0 = 16
    rw [k0_off2_eq]
    rfl
  | ⟨1, _⟩ =>
    show k0_off2 i 1 + 1 * r.val = n.val
    rw [k0_off2_eq, hn]
    show 256 * (i 0).val + 1 * r.val = _
    omega

theorem hOf_apply (r : Fin 256) (l n : Fin 8192) (hn : n.val = 256 * (i 0).val + r.val) :
    hOf (fRows i (k0_pay7 x W)) (ftRows (k0_pay8 x W)) (sqRow (k0_pay8 x W)) (ix2 r l) = hRow (ks x W) n l := by
  unfold hOf
  rw [pay11_apply, sqRow_apply, pay8_last]
  show sqOf (ks x W) l - 2 * _ = sqOf (ks x W) l - 2 * _
  congr 2
  refine Finset.sum_congr rfl fun k _ => ?_
  rw [fRows_apply i _ r k n hn, ftRows_apply, pay7_apply, pay8_apply]

/-- A block of the output, at an element: the row's average by the kernel's weights. -/
theorem outBlk_apply (r : Fin 256) (d : Fin 64) (n : Fin 8192) (hn : n.val = 256 * (i 0).val + r.val) :
    outBlk i (k0_pay9 x) (k0_pay8 x W) (k0_pay7 x W) (ix2 r d)
      = Ideal.div (∑ j, aRow (ks x W) n j * x (ix2 j d)) (∑ j, aRow (ks x W) n j * 1) := by
  unfold outBlk
  rw [pay2_apply, thr_apply, pay10_apply, sqCols_apply i _ r n hn, pay8_last]
  simp only [hOf_apply x W i r _ n hn, pay9_apply, pay9_last]
  rfl

end Cert.KernelIdeal.Val
end
-- ==== Proof.PreFacts.lean ====
module

public import proofs.«01_k».proof.Pre_no_ties

@[expose] public section

namespace Cert.Pre_no_ties.Side

open Idealize.ShloMosaic

/-- The shape relations the precondition states. -/
instance facts : Cert.Pre_no_ties.Facts where
  transposes_S16x64_S64x16_1_0 := by decide
  reducesTo_S8192x16_S8192_d1 := by decide
  h_S_ := by decide
  bcast_S8192_S8192x1_0 := by decide
  bcast_S8192_S1x8192_1 := by decide
  bcast_S8192x1_S8192x8192_0_1 := by decide
  bcast_S1x8192_S8192x8192_0_1 := by decide
  transposes_S8192x16_S16x8192_1_0 := by decide
  bcast_S_S8192x8192 := by decide
  sliceFits_S8192x8192_S8192x21 := by decide
  slices_S8192x21_S8192x20_0_0 := by decide
  slices_S8192x21_S8192x20_0_1 := by decide
  dot_S8192x64_S64x16_S8192x16_1_0_0_1_n_n_wf := by decide
  dot_S8192x16_S16x8192_S8192x8192_1_0_0_1_n_n_wf := by decide

end Cert.Pre_no_ties.Side
-- ==== Proof.RefRow.lean ====
module

public import proofs.«01_k».proof.Proof.Gen.ReferenceIdeal.Run
public import proofs.«01_k».proof.Proof.PreFacts
public import proofs.«01_k».proof.Proof.RowMath
public import proofs.«01_k».proof.Proof.KernelRounds
public import Idealize.ShloMosaic.Lib.Pointwise
public import Idealize.ShloMosaic.Lib.SortFacts
public import Idealize.ShloMosaic.Lib.ScatterToDense.RefScatter

@[expose] public section

set_option maxRecDepth 16384

noncomputable section

namespace Cert.ReferenceIdeal.Row

open Cert.ReferenceIdeal Cert.ReferenceIdeal.Gen
open Idealize.ShloMosaic Cert.RowMath

/-- The features. -/
def fArr (x : FVec Ideal S8192x64 .f32) (W : FVec Ideal S16x64 .f32) : FVec Ideal S8192x16 .f32 :=
  Host.dotGeneral dot_S8192x64_S64x16_S8192x16_1_0_0_1_n_n none x (transpose S64x16 [1, 0] W transposes_S16x64_S64x16_1_0)
/-- The weights. -/
def wArr (f : FVec Ideal S8192x16 .f32) : FVec Ideal S8192x8192 .f32 :=
  Host.exp (Host.negf (maximumf (subf (addf
      (broadcastInDim S8192x8192 ![0, 1] bcast_S8192x1_S8192x8192_0_1 (broadcastInDim S8192x1 ![0] bcast_S8192_S8192x1_0
        (Host.reduceAdd (mulf f f) (constant S_ .f32 0x00000000#32) reducesTo_S8192x16_S8192_d1 h_S_)))
      (broadcastInDim S8192x8192 ![0, 1] bcast_S1x8192_S8192x8192_0_1 (broadcastInDim S1x8192 ![1] bcast_S8192_S1x8192_1
        (Host.reduceAdd (mulf f f) (constant S_ .f32 0x00000000#32) reducesTo_S8192x16_S8192_d1 h_S_))))
    (mulf (broadcastInDim S8192x8192 ![] bcast_S_S8192x8192 (constant S_ .f32 0x40000000#32))
      (Host.dotGeneral dot_S8192x16_S16x8192_S8192x8192_1_0_0_1_n_n none f (transpose S16x8192 [1, 0] f transposes_S8192x16_S16x8192_1_0))))
    (broadcastInDim S8192x8192 ![] bcast_S_S8192x8192 (constant S_ .f32 0x00000000#32))))
/-- The row numbers the scatter is handed. -/
def rowIx : IVec S8192x20x1 32 :=
  broadcastInDim S8192x20x1 ![0, 1] bcast_S8192x20_S8192x20x1_0_1 (broadcastInDim S8192x20 ![0, 1] bcast_S8192x1_S8192x20_0_1
    (select (cmpi .slt (broadcastInDim S8192x1 ![0] bcast_S8192_S8192x1_0 (iotaInDim S8192 32 0)) (broadcastInDim S8192x1 ![] bcast_S_S8192x1 (constantI S_ 32 0#32)))
      (addi (broadcastInDim S8192x1 ![0] bcast_S8192_S8192x1_0 (iotaInDim S8192 32 0)) (broadcastInDim S8192x1 ![] bcast_S_S8192x1 (constantI S_ 32 8192#32)))
      (broadcastInDim S8192x1 ![0] bcast_S8192_S8192x1_0 (iotaInDim S8192 32 0))))
/-- The column numbers it is handed, of the ones selected. -/
def colIx (d : IVec S8192x20 32) : IVec S8192x20x1 32 :=
  broadcastInDim S8192x20x1 ![0, 1] bcast_S8192x20_S8192x20x1_0_1
    (select (cmpi .slt d (broadcastInDim S8192x20 ![] bcast_S_S8192x20 (constantI S_ 32 0#32)))
      (addi d (broadcastInDim S8192x20 ![] bcast_S_S8192x20 (constantI S_ 32 8192#32))) d)
/-- The selected weights, the rest zero. -/
def spArr (w : FVec Ideal S8192x8192 .f32) : FVec Ideal S8192x8192 .f32 :=
  Host.scatter scatter_S8192x8192_S8192x20x2_S8192x20_n_01_01_2 (fun _ b => b)
    (broadcastInDim S8192x8192 ![] bcast_S_S8192x8192 (constant S_ .f32 0x00000000#32))
    (concatenate S8192x20x2 2 [⟨S8192x20x1, rowIx⟩, ⟨S8192x20x1, colIx (Host.topK S8192x20 1 (FloatOps.cmpfTotal .gt) w sliceFits_S8192x8192_S8192x20).2⟩]
      concatenates_S8192x20x1_S8192x20x1_S8192x20x2_d2)
    (Host.topK S8192x20 1 (FloatOps.cmpfTotal .gt) w sliceFits_S8192x8192_S8192x20).1
/-- Their average of the rows of `x`. -/
def avArr (s : FVec Ideal S8192x8192 .f32) (x : FVec Ideal S8192x64 .f32) : FVec Ideal S8192x64 .f32 :=
  Host.dotGeneral dot_S8192x8192_S8192x64_S8192x64_1_0_0_1_n_n none
    (Host.divf s (broadcastInDim S8192x8192 ![0, 1] bcast_S8192x1_S8192x8192_0_1 (broadcastInDim S8192x1 ![0] bcast_S8192_S8192x1_0
      (Host.reduceAdd s (constant S_ .f32 0x00000000#32) reducesTo_S8192x8192_S8192_d1 h_S_)))) x

theorem res_eq (m : (ℓ : Loc nD τ sig) → Buf (Elt Ideal) ℓ) (c : Dev nD) :
    Value.res_main_v40 m c = avArr (spArr (wArr (fArr (m ((c.tc : Thread nD τ).loc main_arg0)) (m ((c.tc : Thread nD τ).loc main_arg2)))))
      (m ((c.tc : Thread nD τ).loc main_arg0)) := by
  unfold Value.res_main_v40 avArr spArr colIx rowIx wArr fArr
  rfl

theorem pre_eq (x y : FVec Ideal S8192x64 .f32) (W : FVec Ideal S16x64 .f32) :
    haveI := Cert.Pre_no_ties.Side.facts
    Cert.Pre_no_ties.fn (F := Ideal) x y W
      = cmpf .ogt
          (extractStridedSlice Cert.Pre_no_ties.S8192x20 ![0, 0] (Host.topK Cert.Pre_no_ties.S8192x21 1 (FloatOps.cmpfTotal .gt) (wArr (fArr x W))
            Cert.Pre_no_ties.Facts.sliceFits_S8192x8192_S8192x21).1 Cert.Pre_no_ties.Facts.slices_S8192x21_S8192x20_0_0)
          (extractStridedSlice Cert.Pre_no_ties.S8192x20 ![0, 1] (Host.topK Cert.Pre_no_ties.S8192x21 1 (FloatOps.cmpfTotal .gt) (wArr (fArr x W))
            Cert.Pre_no_ties.Facts.sliceFits_S8192x8192_S8192x21).1 Cert.Pre_no_ties.Facts.slices_S8192x21_S8192x20_0_1) := by
  unfold Cert.Pre_no_ties.fn Cert.Pre_no_ties.fn_part1 wArr fArr
  rfl

/-- The features of a row, by coordinate. -/
def fs (x : FVec Ideal S8192x64 .f32) (W : FVec Ideal S16x64 .f32) (i : Fin 8192) (k : Fin 16) : EReal :=
  ∑ d : Fin 64, x (ix2 i d) * W (ix2 k d)

theorem fArr_apply (x : FVec Ideal S8192x64 .f32) (W : FVec Ideal S16x64 .f32) (i : Fin 8192) (k : Fin 16) : fArr x W (ix2 i k) = fs x W i k := by
  pointwise [fArr]
  rfl
theorem wArr_apply (f : FVec Ideal S8192x16 .f32) (i j : Fin 8192) : wArr f (ix2 i j) = wRow (fun i k => f (ix2 i k)) i j := by
  pointwise [wArr]
  rw [Cert.KernelIdeal.Val.ofBits_two]
  rfl
theorem wArr_fArr (x : FVec Ideal S8192x64 .f32) (W : FVec Ideal S16x64 .f32) (i j : Fin 8192) :
    wArr (fArr x W) (ix2 i j) = wRow (fs x W) i j := by
  rw [wArr_apply]
  simp only [fArr_apply]
theorem avArr_apply (s : FVec Ideal S8192x8192 .f32) (x : FVec Ideal S8192x64 .f32) (i : Fin 8192) (d : Fin 64) :
    avArr s x (ix2 i d) = ∑ j : Fin 8192, Ideal.div (s (ix2 i j)) (∑ j : Fin 8192, s (ix2 i j)) * x (ix2 j d) := by
  pointwise [avArr]

/-- The column whose weight comes in place `k` of row `i`'s, descending. -/
def sig (w : FVec Ideal S8192x8192 .f32) (i : Fin 8192) (k : ℕ) : Fin 8192 :=
  sortedFrom (fun a b => FloatOps.cmpfTotal (F := Ideal) (φ := .f32) CmpDirection.gt (w (ix2 i a)) (w (ix2 i b)) == 1#1) ⟨k % 8192, Nat.mod_lt _ (by norm_num)⟩

theorem along_eq (i j k : Fin 8192) : ((ix2 i j : S8192x8192.Idx).along 1 k) = ix2 i k := by
  funext a
  match a with
  | ⟨0, _⟩ => rfl
  | ⟨1, _⟩ => rfl

theorem ix2_one (i j : Fin 8192) : ((ix2 i j : S8192x8192.Idx) 1).val = j.val := rfl

theorem top_val (w : FVec Ideal S8192x8192 .f32) (i : Fin 8192) (k : Fin 20) :
    (Host.topK S8192x20 1 (FloatOps.cmpfTotal .gt) w sliceFits_S8192x8192_S8192x20).1 (ix2 i k) = w (ix2 i (sig w i k.val)) := by
  pointwise [Host.topK, Host.sort2]
  simp only [along_eq]
  unfold sig
  congr 3
  apply Fin.ext
  show k.val = k.val % 8192
  omega
theorem top_idx (w : FVec Ideal S8192x8192 .f32) (i : Fin 8192) (k : Fin 20) :
    (Host.topK S8192x20 1 (FloatOps.cmpfTotal .gt) w sliceFits_S8192x8192_S8192x20).2 (ix2 i k) = BitVec.ofNat 32 (sig w i k.val).val := by
  pointwise [Host.topK, Host.sort2]
  simp only [along_eq, ix2_one]
  unfold sig
  congr 3
  apply Fin.ext
  show k.val = k.val % 8192
  omega
theorem top_pre (w : FVec Ideal S8192x8192 .f32) (h : S8192x8192.Slices (fun _ => 0) Cert.Pre_no_ties.S8192x21) (i : Fin 8192) (k : Fin 21) :
    (Host.topK Cert.Pre_no_ties.S8192x21 1 (FloatOps.cmpfTotal .gt) w h).1 (ix2 i k) = w (ix2 i (sig w i k.val)) := by
  pointwise [Host.topK, Host.sort2]
  simp only [along_eq]
  unfold sig
  congr 3
  apply Fin.ext
  show k.val = k.val % 8192
  omega

theorem nonneg_word (k : ℕ) (h : k < 8192) : IntOp.cmpi .slt (BitVec.ofNat 32 k) 0#32 = 0#1 := by
  have : (BitVec.ofNat 32 k).slt 0#32 = false := by
    rw [BitVec.slt_eq_decide, StableHlo.Predicate.toInt_ofNat_small _ (by omega)]
    simp
  show BitVec.ofBool _ = _
  rw [this]
  rfl

/-- What the scatter leaves: the first 20 weights listed, at their columns. -/
theorem spArr_apply (w : FVec Ideal S8192x8192 .f32) (i j : Fin 8192) :
    spArr w (ix2 i j) = ScatterToDense.GS (fun k => BitVec.ofNat 32 (sig w i k).val) (fun k => w (ix2 i (sig w i k))) (0 : EReal) j.val 20 := by
  have e := ScatterToDense.scatter_eq_GS (T := 8192) (C := 8192) (K := 20) scatter_S8192x8192_S8192x20x2_S8192x20_n_01_01_2 rfl rfl rfl
    (by norm_num) (by norm_num) (broadcastInDim S8192x8192 ![] bcast_S_S8192x8192 (constant (F := Ideal) S_ .f32 0x00000000#32))
    (concatenate S8192x20x2 2 [⟨S8192x20x1, rowIx⟩, ⟨S8192x20x1, colIx (Host.topK S8192x20 1 (FloatOps.cmpfTotal .gt) w sliceFits_S8192x8192_S8192x20).2⟩]
      concatenates_S8192x20x1_S8192x20x1_S8192x20x2_d2)
    (Host.topK S8192x20 1 (FloatOps.cmpfTotal .gt) w sliceFits_S8192x8192_S8192x20).1
    (fun i k => BitVec.ofNat 32 (sig w i k).val) (fun i k => w (ix2 i (sig w i k))) ?_ ?_ ?_ i j
  · refine e.trans (congrArg (fun z => ScatterToDense.GS (fun k => BitVec.ofNat 32 (sig w i k).val) (fun k => w (ix2 i (sig w i k))) z j.val 20) ?_)
    show (broadcastInDim S8192x8192 ![] bcast_S_S8192x8192 (constant (F := Ideal) S_ .f32 0x00000000#32)) (ix2 i j) = 0
    pointwise
  · intro i k
    show _ = BitVec.ofNat 32 i.val
    have : (concatenate S8192x20x2 2 [⟨S8192x20x1, rowIx⟩, ⟨S8192x20x1, colIx (Host.topK S8192x20 1 (FloatOps.cmpfTotal .gt) w sliceFits_S8192x8192_S8192x20).2⟩]
      concatenates_S8192x20x1_S8192x20x1_S8192x20x2_d2) (ix3 i k 0) = rowIx (ix3 i k 0) := by
      generalize colIx _ = b
      generalize rowIx = a
      pointwise
    refine this.trans ?_
    pointwise [rowIx]
    rw [nonneg_word _ i.isLt]
    rfl
  · intro i k
    have : (concatenate S8192x20x2 2 [⟨S8192x20x1, rowIx⟩, ⟨S8192x20x1, colIx (Host.topK S8192x20 1 (FloatOps.cmpfTotal .gt) w sliceFits_S8192x8192_S8192x20).2⟩]
      concatenates_S8192x20x1_S8192x20x1_S8192x20x2_d2) (ix3 i k 1) = colIx (Host.topK S8192x20 1 (FloatOps.cmpfTotal .gt) w sliceFits_S8192x8192_S8192x20).2 (ix3 i k 0) := by
      generalize colIx _ = b
      generalize rowIx = a
      pointwise
    refine this.trans ?_
    have e' := top_idx w i k
    generalize (Host.topK S8192x20 1 (FloatOps.cmpfTotal .gt) w sliceFits_S8192x8192_S8192x20).2 = d at *
    pointwise [colIx]
    rw [e', nonneg_word _ (sig w i k.val).isLt]
    rfl
  · intro i k
    exact top_val w i k

open Classical in
theorem gs_apply (w : Fin 8192 → EReal) (σ : ℕ → Fin 8192) (j : Fin 8192) (n : ℕ) :
    ScatterToDense.GS (fun k => BitVec.ofNat 32 (σ k).val) (fun k => w (σ k)) (0 : EReal) j.val n = if ∃ k < n, j = σ k then w j else 0 := by
  induction n with
  | zero => rw [ScatterToDense.GS_zero, if_neg (by rintro ⟨k, hk, _⟩; omega)]
  | succ n ih =>
    have hw : j.val = (BitVec.ofNat 32 (σ n).val).toNat ↔ j = σ n := by
      have := (σ n).isLt
      rw [BitVec.toNat_ofNat, Nat.mod_eq_of_lt (by omega), Fin.ext_iff]
    by_cases h : j = σ n
    · rw [ScatterToDense.GS_succ, if_pos (hw.2 h), if_pos ⟨n, by omega, h⟩, h]
    · rw [ScatterToDense.GS_succ, if_neg (mt hw.1 h), ih]
      by_cases hk : ∃ k < n, j = σ k
      · rw [if_pos hk, if_pos (by obtain ⟨k, hk, e⟩ := hk; exact ⟨k, by omega, e⟩)]
      · rw [if_neg hk, if_neg]
        rintro ⟨k, hkn, e⟩
        rcases (Nat.lt_succ_iff.1 hkn).eq_or_lt with rfl | hlt
        · exact h e
        · exact hk ⟨k, hlt, e⟩

theorem gt_iff (a b : EReal) : (FloatOps.cmpfTotal (F := Ideal) (φ := .f32) CmpDirection.gt a b == 1#1) = decide (b < a) := by
  show (BitVec.ofBool (decide (b < a)) == 1#1) = _
  by_cases h : b < a
  · rw [decide_eq_true h]; rfl
  · rw [decide_eq_false h]; rfl

theorem ordered (w : FVec Ideal S8192x8192 .f32) (i : Fin 8192)
    (h : ∀ k < 20, w (ix2 i (sig w i (k + 1))) < w (ix2 i (sig w i k))) : Ordered (fun j => w (ix2 i j)) (sig w i) where
  surj j := by
    obtain ⟨p, hp⟩ := sortedFrom_surjective
      (fun a b : Fin 8192 => FloatOps.cmpfTotal (F := Ideal) (φ := .f32) CmpDirection.gt (w (ix2 i a)) (w (ix2 i b)) == 1#1) j
    refine ⟨p.val, p.isLt, hp.symm.trans (congrArg _ (Fin.ext (Nat.mod_eq_of_lt p.isLt).symm))⟩
  sorted a b hab hb := by
    have := sortedFrom_noInversion
      (fun a b : Fin 8192 => FloatOps.cmpfTotal (F := Ideal) (φ := .f32) CmpDirection.gt (w (ix2 i a)) (w (ix2 i b)) == 1#1)
      (fun a b : Fin 8192 => FloatOps.cmpfTotal (F := Ideal) (φ := .f32) CmpDirection.gt (w (ix2 i a)) (w (ix2 i b)) == 1#1)
      (fun a b hab => by
        rw [gt_iff] at hab ⊢
        exact decide_eq_false (not_lt.2 (of_decide_eq_true hab).le))
      (fun a b hab => hab)
      (fun a b c hab hbc => by
        rw [gt_iff] at hab hbc ⊢
        exact decide_eq_false (not_lt.2 ((not_lt.1 (of_decide_eq_false hab)).trans (not_lt.1 (of_decide_eq_false hbc)))))
      ⟨a % 8192, Nat.mod_lt _ (by norm_num)⟩ ⟨b % 8192, Nat.mod_lt _ (by norm_num)⟩ (by
        show a % 8192 < b % 8192
        omega)
    rw [gt_iff] at this
    exact not_lt.1 (of_decide_eq_false this)
  strict := h

/-- The precondition, of a row's listed weights. -/
theorem pre_ordered (x y : FVec Ideal S8192x64 .f32) (W : FVec Ideal S16x64 .f32)
    (h : haveI := Cert.Pre_no_ties.Side.facts; Cert.Pre_no_ties.fn (F := Ideal) x y W = fun _ => 1#1) (i : Fin 8192) :
    Ordered (wRow (fs x W) i) (sig (wArr (fArr x W)) i) := by
  have e : (fun j => wArr (fArr x W) (ix2 i j)) = wRow (fs x W) i := funext fun j => wArr_fArr x W i j
  rw [← e]
  refine ordered _ i fun k hk => ?_
  have h' := congrFun ((pre_eq x y W).symm.trans h) (ix2 i ⟨k, hk⟩)
  generalize wArr (fArr x W) = w at *
  have e1 := top_pre w Cert.Pre_no_ties.Side.facts.sliceFits_S8192x8192_S8192x21 i ⟨k, by omega⟩
  have e2 := top_pre w Cert.Pre_no_ties.Side.facts.sliceFits_S8192x8192_S8192x21 i ⟨k + 1, by omega⟩
  generalize (Host.topK Cert.Pre_no_ties.S8192x21 1 (FloatOps.cmpfTotal .gt) w _).1 = t at *
  rw [← e1, ← e2]
  pointwise at h'
  have e3 : (⟨1 + k, by omega⟩ : Fin 21) = ⟨k + 1, by omega⟩ := Fin.ext (Nat.add_comm 1 k)
  rw [e3] at h'
  by_contra hn
  rw [decide_eq_false hn] at h'
  exact absurd h' (by decide)

/-- The reference's result. -/
theorem res_apply (x : FVec Ideal S8192x64 .f32) (W : FVec Ideal S16x64 .f32) (hf : ∀ i, Ordered (wRow (fs x W) i) (sig (wArr (fArr x W)) i))
    (i : Fin 8192) (d : Fin 64) :
    avArr (spArr (wArr (fArr x W))) x (ix2 i d)
      = Ideal.div (∑ j, aRow (fs x W) i j * x (ix2 j d)) (∑ j, aRow (fs x W) i j * 1) := by
  classical
  rw [avArr_apply]
  refine (average (fs x W) i (fun i => ⟨_, hf i⟩) _ (hf i) (fun j => spArr (wArr (fArr x W)) (ix2 i j)) (fun j => ?_) (fun j => x (ix2 j d))).symm
  rw [spArr_apply, gs_apply (fun j => wArr (fArr x W) (ix2 i j))]
  by_cases hk : ∃ k < 20, j = sig (wArr (fArr x W)) i k
  · rw [if_pos hk, if_pos hk, wArr_fArr]
  · rw [if_neg hk, if_neg hk]

end Cert.ReferenceIdeal.Row
-- ==== Proof.Result.lean ====
module

public import proofs.«01_k».proof.Defs
public import proofs.«01_k».proof.Proof.Frames
public import proofs.«01_k».proof.Proof.KernelValue
public import proofs.«01_k».proof.Proof.RefRow

@[expose] public section

set_option maxRecDepth 16384

noncomputable section

namespace Cert.Result

open Idealize.ShloMosaic Idealize.ShloMosaic.TcCoe Idealize.SL.Sem
open Cert.KernelIdeal Cert.KernelIdeal.Gen Cert.KernelIdeal.Body Cert.KernelIdeal.Val Cert.RowMath
open Cert.ReferenceIdeal.Row (fArr wArr spArr avArr fs sig)

variable (m : (ℓ : Loc nD τ sig) → Buf (Elt Ideal) ℓ)

theorem idx0 : ∀ a, win0_0.index pt0 a = 0 := by decide +kernel
theorem idx1 : ∀ a, win0_1.index pt0 a = 0 := by decide +kernel
theorem idx2 : ∀ t : Fin grid0.N, win0_2.index t 0 = t.val ∧ win0_2.index t 1 = 0 := by decide +kernel

/-- The points and the projection, as the arguments hold them. -/
def argX (c : Dev nD) : Vec Ideal S8192x64 .f32 := m ((c : Thread nD τ).loc main_arg0)
def argW (c : Dev nD) : Vec Ideal S16x64 .f32 := m ((c : Thread nD τ).loc main_arg2)

theorem xIn_eq (c : Dev nD) : xIn m c = argX m c := by
  funext y
  obtain ⟨i, d, rfl⟩ : ∃ i d, y = ix2 i d := ⟨y 0, y 1, by funext a; match a with | ⟨0, _⟩ => rfl | ⟨1, _⟩ => rfl⟩
  unfold xIn argX
  blk_ext [iblk, V, idx0]
theorem wIn_eq (c : Dev nD) : wIn m c = argW m c := by
  funext y
  obtain ⟨i, d, rfl⟩ : ∃ i d, y = ix2 i d := ⟨y 0, y 1, by funext a; match a with | ⟨0, _⟩ => rfl | ⟨1, _⟩ => rfl⟩
  unfold wIn argW
  blk_ext [iblk, V, idx1]

/-- The result the reference computes of the same arguments. -/
def out (c : Dev nD) : FVec Ideal S8192x64 .f32 :=
  avArr (spArr (wArr (fArr (argX m c) (argW m c)))) (argX m c)

/-- Each block written back is that part of the reference's result. -/
theorem oBlk_apply (c : Dev nD) (hf : ∀ i, Ordered (wRow (fs (argX m c) (argW m c)) i) (sig (wArr (fArr (argX m c) (argW m c))) i))
    (t : Fin cfg0.N) (r : Fin 256) (d : Fin 64) (n : Fin 8192) (hn : n.val = 256 * t.val + r.val) :
    oBlk m c t (ix2 r d) = out m c (ix2 n d) := by
  unfold oBlk out
  rw [xIn_eq, wIn_eq, Cert.ReferenceIdeal.Row.res_apply _ _ hf,
    outBlk_apply _ _ _ r d n (by rw [coord, hn])]
  rfl

theorem arr_eq (c : Dev nD) (hf : ∀ i, Ordered (wRow (fs (argX m c) (argW m c)) i) (sig (wArr (fArr (argX m c) (argW m c))) i)) :
    (dats m 0 c).arrAt 2 (cfgs 0).N = out m c := by
  refine (dats m 0 c).arrAt_eq_of_covers 2 _ (by decide +kernel) fun t hf' y => ?_
  blk_simp
  obtain ⟨r, d, rfl⟩ : ∃ i d, y = ix2 i d := ⟨y 0, y 1, by funext a; match a with | ⟨0, _⟩ => rfl | ⟨1, _⟩ => rfl⟩
  have hr := r.isLt
  have ht : t.val < 32 := lt_of_lt_of_eq t.isLt N_0
  refine (oBlk_apply m c hf t r d ⟨256 * t.val + r.val, by omega⟩ rfl).trans (congrArg (out m c) (funext fun a => Fin.ext ?_))
  match a with
  | ⟨0, _⟩ =>
    show 256 * t.val + r.val = ((win0_2.blk t).view.emb (ix2 r d) 0).val
    blk_simp [(idx2 t).1]
    omega
  | ⟨1, _⟩ =>
    show d.val = ((win0_2.blk t).view.emb (ix2 r d) 1).val
    blk_simp [(idx2 t).2]

/-- What the precondition says of the arguments: every row's weights, in the reference's descending order, fall
    strictly at each of the first twenty steps. -/
theorem pre_rows (h : Cert.Pre_KernelIdeal_no_ties (hPre_no_ties := Cert.Pre_no_ties.Side.facts) m) (c : Dev nD) :
    ∀ i, Ordered (wRow (fs (argX m c) (argW m c)) i) (sig (wArr (fArr (argX m c) (argW m c))) i) :=
  fun i => Cert.ReferenceIdeal.Row.pre_ordered (argX m c) _ (argW m c) (h c) i

/-- Kernel and reference end with the same result. -/
theorem algebraic : Cert.algebraic_KernelIdeal_ReferenceIdeal_pre_no_ties (hPre_no_ties := Cert.Pre_no_ties.Side.facts) := by
  intro m g m' g' hpre hag
  refine ⟨fun c => out m c, ?_, ?_⟩
  · refine (θ_run Cert.KernelIdeal.defs _ _).mono (fun r h c => ?_) (Cert.KernelIdeal.Body.run_main m g)
    exact ⟨((h.1 c).1 2).trans (arr_eq m c (pre_rows m hpre c)), ((h.1 c).1 0).trans ((dats m 0 c).arrAt_in 0 rfl _),
      (h.1 c).2 main_arg1 (Pipeline.mem_restRefs_of main_arg1 (by decide) (by decide)),
      ((h.1 c).1 1).trans ((dats m 0 c).arrAt_in 1 rfl _)⟩
  · refine (θ_run Cert.ReferenceIdeal.defs _ _).mono (fun r h c => ⟨?_, (h c).2⟩) (Cert.ReferenceIdeal.Value.run m' g')
    rw [(h c).1, Cert.ReferenceIdeal.Row.res_eq]
    obtain ⟨e0, e1, e2⟩ := hag c
    show avArr (spArr (wArr (fArr _ _))) _ = avArr (spArr (wArr (fArr _ _))) _
    exact congrArg₂ (fun x W => avArr (spArr (wArr (fArr x W))) x) e0 e2

end Cert.Result
end
-- ==== Proof.lean ====
module

public import proofs.«01_k».proof.Defs
public import proofs.«01_k».proof.Proof.Frames
public import proofs.«01_k».proof.Proof.Result

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_no_ties.Side.facts,
  Cert.Frames.kernel, Cert.Frames.kernelIdeal, fun m ρ _ => Cert.Frames.kernelIdeal m ρ trivial,
  Cert.Frames.referenceIdeal, fun m ρ _ => Cert.Frames.referenceIdeal m ρ trivial,
  Cert.Frames.preserves, Cert.Result.algebraic⟩

end Cert.Proof

end
